-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2048x512 : Shape := ⟨2, ![2048, 512]⟩
abbrev S3 : Shape := ⟨1, ![3]⟩
abbrev S16 : Shape := ⟨1, ![16]⟩
abbrev S1 : Shape := ⟨1, ![1]⟩
abbrev S_ : Shape := ⟨0, ![]⟩
abbrev S32x512 : Shape := ⟨2, ![32, 512]⟩
abbrev S480x512 : Shape := ⟨2, ![480, 512]⟩
abbrev S512x512 : Shape := ⟨2, ![512, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .f32⟩
  | .hbm, ⟨1, _⟩ => ⟨S2048x512, .bf16⟩
  | .local _ .vmem, ⟨0, _⟩ => ⟨S2048x512, .bf16⟩
  | .local _ .vmem, ⟨1, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  let c0_i32_8 : BitVec 32 := 0#32
  ![v15.toNat, 0]
def k0_off2 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  let c32_i32_10 : BitVec 32 := 32#32
  let v21 : BitVec 32 := Scalar.addi v15 c32_i32_10
  let c0_i32_12 : BitVec 32 := 0#32
  ![v21.toNat, 0]
def k0_off3 (d0 : Dev nD) : Fin 2 → Nat :=
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v26 : BitVec 32 := Scalar.subi c1_i32_14 v2
  let c512_i32_15 : BitVec 32 := 512#32
  let v27 : BitVec 32 := Scalar.muli v26 c512_i32_15
  let c0_i32_17 : BitVec 32 := 0#32
  ![v27.toNat, 0]
def k0_dev1 (d0 : Dev nD) : Nat :=
  let c0_i32_21 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_20 : BitVec 32 := 2#32
  let v33 : BitVec 32 := Scalar.muli v2 c2_i32_20
  let v34 : BitVec 32 := Scalar.addi c0_i32_21 v33
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_22 : BitVec 32 := 1#32
  let v35 : BitVec 32 := Scalar.muli v6 c1_i32_22
  let v36 : BitVec 32 := Scalar.addi v34 v35
  v36.toNat
def k0_dev2 (d0 : Dev nD) : Nat :=
  let c0_i32_25 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_24 : BitVec 32 := 2#32
  let v37 : BitVec 32 := Scalar.muli v7 c2_i32_24
  let v38 : BitVec 32 := Scalar.addi c0_i32_25 v37
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_26 : BitVec 32 := 1#32
  let v39 : BitVec 32 := Scalar.muli v5 c1_i32_26
  let v40 : BitVec 32 := Scalar.addi v38 v39
  v40.toNat
def k0_off4 (d0 : Dev nD) (c0_i32_32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  let v46 : BitVec 32 := Scalar.addi v15 c0_i32_32
  let v47 : Index := Scalar.indexCast v46
  let c0 : Index := 0#32
  ![v47.toNat, 0]
def k0_off5 (d0 : Dev nD) (c0_i32_31 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v9 : BitVec 32 := Scalar.muli v2 c512_i32
  let v10 : BitVec 32 := Scalar.addi v8 v9
  let v45 : BitVec 32 := Scalar.addi v10 c0_i32_31
  let v50 : Index := Scalar.indexCast v45
  let c0_33 : Index := 0#32
  ![v50.toNat, 0]
def k0_off6 (d0 : Dev nD) (c0_i32_31 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v9 : BitVec 32 := Scalar.muli v2 c512_i32
  let v10 : BitVec 32 := Scalar.addi v8 v9
  let v45 : BitVec 32 := Scalar.addi v10 c0_i32_31
  let c0_i32_39 : BitVec 32 := 0#32
  ![v45.toNat, 0]
def k0_dev3 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v52 : BitVec 32 := Scalar.muli v2 c2_i32_36
  let v53 : BitVec 32 := Scalar.addi c0_i32_37 v52
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_38 : BitVec 32 := 1#32
  let v54 : BitVec 32 := Scalar.muli v6 c1_i32_38
  let v55 : BitVec 32 := Scalar.addi v53 v54
  v55.toNat
def k0_dev4 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v73 : BitVec 32 := Scalar.muli v2 c2_i32_50
  let v74 : BitVec 32 := Scalar.addi c0_i32_51 v73
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_52 : BitVec 32 := 1#32
  let v75 : BitVec 32 := Scalar.muli v6 c1_i32_52
  let v76 : BitVec 32 := Scalar.addi v74 v75
  v76.toNat
def k0_dev5 (d0 : Dev nD) : Nat :=
  let c0_i32_61 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_60 : BitVec 32 := 2#32
  let v90 : BitVec 32 := Scalar.muli v2 c2_i32_60
  let v91 : BitVec 32 := Scalar.addi c0_i32_61 v90
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_62 : BitVec 32 := 1#32
  let v92 : BitVec 32 := Scalar.muli v6 c1_i32_62
  let v93 : BitVec 32 := Scalar.addi v91 v92
  v93.toNat
def k0_dev6 (d0 : Dev nD) : Nat :=
  let c0_i32_70 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_69 : BitVec 32 := 2#32
  let v107 : BitVec 32 := Scalar.muli v2 c2_i32_69
  let v108 : BitVec 32 := Scalar.addi c0_i32_70 v107
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_71 : BitVec 32 := 1#32
  let v109 : BitVec 32 := Scalar.muli v6 c1_i32_71
  let v110 : BitVec 32 := Scalar.addi v108 v109
  v110.toNat
def k0_dev7 (d0 : Dev nD) : Nat :=
  let c0_i32_79 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_78 : BitVec 32 := 2#32
  let v124 : BitVec 32 := Scalar.muli v2 c2_i32_78
  let v125 : BitVec 32 := Scalar.addi c0_i32_79 v124
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_80 : BitVec 32 := 1#32
  let v126 : BitVec 32 := Scalar.muli v6 c1_i32_80
  let v127 : BitVec 32 := Scalar.addi v125 v126
  v127.toNat
def k0_dev8 (d0 : Dev nD) : Nat :=
  let c0_i32_88 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_87 : BitVec 32 := 2#32
  let v141 : BitVec 32 := Scalar.muli v2 c2_i32_87
  let v142 : BitVec 32 := Scalar.addi c0_i32_88 v141
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_89 : BitVec 32 := 1#32
  let v143 : BitVec 32 := Scalar.muli v6 c1_i32_89
  let v144 : BitVec 32 := Scalar.addi v142 v143
  v144.toNat
def k0_dev9 (d0 : Dev nD) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_96 : BitVec 32 := 2#32
  let v158 : BitVec 32 := Scalar.muli v2 c2_i32_96
  let v159 : BitVec 32 := Scalar.addi c0_i32_97 v158
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_98 : BitVec 32 := 1#32
  let v160 : BitVec 32 := Scalar.muli v6 c1_i32_98
  let v161 : BitVec 32 := Scalar.addi v159 v160
  v161.toNat
def k0_dev10 (d0 : Dev nD) : Nat :=
  let c0_i32_106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_105 : BitVec 32 := 2#32
  let v175 : BitVec 32 := Scalar.muli v2 c2_i32_105
  let v176 : BitVec 32 := Scalar.addi c0_i32_106 v175
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_107 : BitVec 32 := 1#32
  let v177 : BitVec 32 := Scalar.muli v6 c1_i32_107
  let v178 : BitVec 32 := Scalar.addi v176 v177
  v178.toNat
def k0_dev11 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_114 : BitVec 32 := 2#32
  let v192 : BitVec 32 := Scalar.muli v2 c2_i32_114
  let v193 : BitVec 32 := Scalar.addi c0_i32_115 v192
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_116 : BitVec 32 := 1#32
  let v194 : BitVec 32 := Scalar.muli v6 c1_i32_116
  let v195 : BitVec 32 := Scalar.addi v193 v194
  v195.toNat
def k0_dev12 (d0 : Dev nD) : Nat :=
  let c0_i32_124 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_123 : BitVec 32 := 2#32
  let v209 : BitVec 32 := Scalar.muli v2 c2_i32_123
  let v210 : BitVec 32 := Scalar.addi c0_i32_124 v209
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_125 : BitVec 32 := 1#32
  let v211 : BitVec 32 := Scalar.muli v6 c1_i32_125
  let v212 : BitVec 32 := Scalar.addi v210 v211
  v212.toNat
def k0_dev13 (d0 : Dev nD) : Nat :=
  let c0_i32_133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_132 : BitVec 32 := 2#32
  let v226 : BitVec 32 := Scalar.muli v2 c2_i32_132
  let v227 : BitVec 32 := Scalar.addi c0_i32_133 v226
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_134 : BitVec 32 := 1#32
  let v228 : BitVec 32 := Scalar.muli v6 c1_i32_134
  let v229 : BitVec 32 := Scalar.addi v227 v228
  v229.toNat
def k0_dev14 (d0 : Dev nD) : Nat :=
  let c0_i32_142 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_141 : BitVec 32 := 2#32
  let v243 : BitVec 32 := Scalar.muli v2 c2_i32_141
  let v244 : BitVec 32 := Scalar.addi c0_i32_142 v243
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_143 : BitVec 32 := 1#32
  let v245 : BitVec 32 := Scalar.muli v6 c1_i32_143
  let v246 : BitVec 32 := Scalar.addi v244 v245
  v246.toNat
def k0_dev15 (d0 : Dev nD) : Nat :=
  let c0_i32_151 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_150 : BitVec 32 := 2#32
  let v260 : BitVec 32 := Scalar.muli v2 c2_i32_150
  let v261 : BitVec 32 := Scalar.addi c0_i32_151 v260
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_152 : BitVec 32 := 1#32
  let v262 : BitVec 32 := Scalar.muli v6 c1_i32_152
  let v263 : BitVec 32 := Scalar.addi v261 v262
  v263.toNat
def k0_dev16 (d0 : Dev nD) : Nat :=
  let c0_i32_160 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_159 : BitVec 32 := 2#32
  let v277 : BitVec 32 := Scalar.muli v2 c2_i32_159
  let v278 : BitVec 32 := Scalar.addi c0_i32_160 v277
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_161 : BitVec 32 := 1#32
  let v279 : BitVec 32 := Scalar.muli v6 c1_i32_161
  let v280 : BitVec 32 := Scalar.addi v278 v279
  v280.toNat
def k0_dev17 (d0 : Dev nD) : Nat :=
  let c0_i32_169 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_168 : BitVec 32 := 2#32
  let v294 : BitVec 32 := Scalar.muli v2 c2_i32_168
  let v295 : BitVec 32 := Scalar.addi c0_i32_169 v294
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_170 : BitVec 32 := 1#32
  let v296 : BitVec 32 := Scalar.muli v6 c1_i32_170
  let v297 : BitVec 32 := Scalar.addi v295 v296
  v297.toNat
def k0_dev18 (d0 : Dev nD) : Nat :=
  let c0_i32_178 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_177 : BitVec 32 := 2#32
  let v311 : BitVec 32 := Scalar.muli v2 c2_i32_177
  let v312 : BitVec 32 := Scalar.addi c0_i32_178 v311
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_179 : BitVec 32 := 1#32
  let v313 : BitVec 32 := Scalar.muli v6 c1_i32_179
  let v314 : BitVec 32 := Scalar.addi v312 v313
  v314.toNat
def k0_off7 (d0 : Dev nD) : Fin 2 → Nat :=
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v26 : BitVec 32 := Scalar.subi c1_i32_14 v2
  let c512_i32_15 : BitVec 32 := 512#32
  let v27 : BitVec 32 := Scalar.muli v26 c512_i32_15
  let v325 : Index := Scalar.indexCast v27
  let c0_185 : Index := 0#32
  ![v325.toNat, 0]
def k0_off8 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v26 : BitVec 32 := Scalar.subi c1_i32_14 v2
  let c512_i32_15 : BitVec 32 := 512#32
  let v27 : BitVec 32 := Scalar.muli v26 c512_i32_15
  let v328 : BitVec 32 := Scalar.addi v8 v27
  let v329 : Index := Scalar.indexCast v328
  let c0_186 : Index := 0#32
  ![v329.toNat, 0]
def k0_off9 (d0 : Dev nD) (c0_i32_187 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.subi c1_i32_4 v5
  let c1024_i32_5 : BitVec 32 := 1024#32
  let v12 : BitVec 32 := Scalar.muli v11 c1024_i32_5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_6 : BitVec 32 := 512#32
  let v13 : BitVec 32 := Scalar.muli v2 c512_i32_6
  let v14 : BitVec 32 := Scalar.addi v12 v13
  let v331 : BitVec 32 := Scalar.addi v14 c0_i32_187
  let c0_i32_200 : BitVec 32 := 0#32
  ![v331.toNat, 0]
def k0_dev19 (d0 : Dev nD) : Nat :=
  let c0_i32_198 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_197 : BitVec 32 := 2#32
  let v340 : BitVec 32 := Scalar.muli v7 c2_i32_197
  let v341 : BitVec 32 := Scalar.addi c0_i32_198 v340
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_199 : BitVec 32 := 1#32
  let v342 : BitVec 32 := Scalar.muli v5 c1_i32_199
  let v343 : BitVec 32 := Scalar.addi v341 v342
  v343.toNat
def k0_dev20 (d0 : Dev nD) : Nat :=
  let c0_i32_213 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_212 : BitVec 32 := 2#32
  let v359 : BitVec 32 := Scalar.muli v7 c2_i32_212
  let v360 : BitVec 32 := Scalar.addi c0_i32_213 v359
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_214 : BitVec 32 := 1#32
  let v361 : BitVec 32 := Scalar.muli v5 c1_i32_214
  let v362 : BitVec 32 := Scalar.addi v360 v361
  v362.toNat
def k0_dev21 (d0 : Dev nD) : Nat :=
  let c0_i32_228 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_227 : BitVec 32 := 2#32
  let v378 : BitVec 32 := Scalar.muli v7 c2_i32_227
  let v379 : BitVec 32 := Scalar.addi c0_i32_228 v378
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_229 : BitVec 32 := 1#32
  let v380 : BitVec 32 := Scalar.muli v5 c1_i32_229
  let v381 : BitVec 32 := Scalar.addi v379 v380
  v381.toNat
def k0_dev22 (d0 : Dev nD) : Nat :=
  let c0_i32_243 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_242 : BitVec 32 := 2#32
  let v397 : BitVec 32 := Scalar.muli v7 c2_i32_242
  let v398 : BitVec 32 := Scalar.addi c0_i32_243 v397
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_244 : BitVec 32 := 1#32
  let v399 : BitVec 32 := Scalar.muli v5 c1_i32_244
  let v400 : BitVec 32 := Scalar.addi v398 v399
  v400.toNat
def k0_dev23 (d0 : Dev nD) : Nat :=
  let c0_i32_258 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_257 : BitVec 32 := 2#32
  let v416 : BitVec 32 := Scalar.muli v7 c2_i32_257
  let v417 : BitVec 32 := Scalar.addi c0_i32_258 v416
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_259 : BitVec 32 := 1#32
  let v418 : BitVec 32 := Scalar.muli v5 c1_i32_259
  let v419 : BitVec 32 := Scalar.addi v417 v418
  v419.toNat
def k0_dev24 (d0 : Dev nD) : Nat :=
  let c0_i32_273 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_272 : BitVec 32 := 2#32
  let v435 : BitVec 32 := Scalar.muli v7 c2_i32_272
  let v436 : BitVec 32 := Scalar.addi c0_i32_273 v435
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_274 : BitVec 32 := 1#32
  let v437 : BitVec 32 := Scalar.muli v5 c1_i32_274
  let v438 : BitVec 32 := Scalar.addi v436 v437
  v438.toNat
def k0_dev25 (d0 : Dev nD) : Nat :=
  let c0_i32_288 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_287 : BitVec 32 := 2#32
  let v454 : BitVec 32 := Scalar.muli v7 c2_i32_287
  let v455 : BitVec 32 := Scalar.addi c0_i32_288 v454
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_289 : BitVec 32 := 1#32
  let v456 : BitVec 32 := Scalar.muli v5 c1_i32_289
  let v457 : BitVec 32 := Scalar.addi v455 v456
  v457.toNat
def k0_dev26 (d0 : Dev nD) : Nat :=
  let c0_i32_303 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_302 : BitVec 32 := 2#32
  let v473 : BitVec 32 := Scalar.muli v7 c2_i32_302
  let v474 : BitVec 32 := Scalar.addi c0_i32_303 v473
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_304 : BitVec 32 := 1#32
  let v475 : BitVec 32 := Scalar.muli v5 c1_i32_304
  let v476 : BitVec 32 := Scalar.addi v474 v475
  v476.toNat
def k0_dev27 (d0 : Dev nD) : Nat :=
  let c0_i32_318 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_317 : BitVec 32 := 2#32
  let v492 : BitVec 32 := Scalar.muli v7 c2_i32_317
  let v493 : BitVec 32 := Scalar.addi c0_i32_318 v492
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_319 : BitVec 32 := 1#32
  let v494 : BitVec 32 := Scalar.muli v5 c1_i32_319
  let v495 : BitVec 32 := Scalar.addi v493 v494
  v495.toNat
def k0_dev28 (d0 : Dev nD) : Nat :=
  let c0_i32_333 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_332 : BitVec 32 := 2#32
  let v511 : BitVec 32 := Scalar.muli v7 c2_i32_332
  let v512 : BitVec 32 := Scalar.addi c0_i32_333 v511
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_334 : BitVec 32 := 1#32
  let v513 : BitVec 32 := Scalar.muli v5 c1_i32_334
  let v514 : BitVec 32 := Scalar.addi v512 v513
  v514.toNat
def k0_dev29 (d0 : Dev nD) : Nat :=
  let c0_i32_348 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_347 : BitVec 32 := 2#32
  let v530 : BitVec 32 := Scalar.muli v7 c2_i32_347
  let v531 : BitVec 32 := Scalar.addi c0_i32_348 v530
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_349 : BitVec 32 := 1#32
  let v532 : BitVec 32 := Scalar.muli v5 c1_i32_349
  let v533 : BitVec 32 := Scalar.addi v531 v532
  v533.toNat
def k0_dev30 (d0 : Dev nD) : Nat :=
  let c0_i32_363 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_362 : BitVec 32 := 2#32
  let v549 : BitVec 32 := Scalar.muli v7 c2_i32_362
  let v550 : BitVec 32 := Scalar.addi c0_i32_363 v549
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_364 : BitVec 32 := 1#32
  let v551 : BitVec 32 := Scalar.muli v5 c1_i32_364
  let v552 : BitVec 32 := Scalar.addi v550 v551
  v552.toNat
def k0_dev31 (d0 : Dev nD) : Nat :=
  let c0_i32_378 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_377 : BitVec 32 := 2#32
  let v568 : BitVec 32 := Scalar.muli v7 c2_i32_377
  let v569 : BitVec 32 := Scalar.addi c0_i32_378 v568
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_379 : BitVec 32 := 1#32
  let v570 : BitVec 32 := Scalar.muli v5 c1_i32_379
  let v571 : BitVec 32 := Scalar.addi v569 v570
  v571.toNat
def k0_dev32 (d0 : Dev nD) : Nat :=
  let c0_i32_393 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_392 : BitVec 32 := 2#32
  let v587 : BitVec 32 := Scalar.muli v7 c2_i32_392
  let v588 : BitVec 32 := Scalar.addi c0_i32_393 v587
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_394 : BitVec 32 := 1#32
  let v589 : BitVec 32 := Scalar.muli v5 c1_i32_394
  let v590 : BitVec 32 := Scalar.addi v588 v589
  v590.toNat
def k0_dev33 (d0 : Dev nD) : Nat :=
  let c0_i32_408 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_407 : BitVec 32 := 2#32
  let v606 : BitVec 32 := Scalar.muli v7 c2_i32_407
  let v607 : BitVec 32 := Scalar.addi c0_i32_408 v606
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_409 : BitVec 32 := 1#32
  let v608 : BitVec 32 := Scalar.muli v5 c1_i32_409
  let v609 : BitVec 32 := Scalar.addi v607 v608
  v609.toNat
def k0_dev34 (d0 : Dev nD) : Nat :=
  let c0_i32_423 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_422 : BitVec 32 := 2#32
  let v625 : BitVec 32 := Scalar.muli v7 c2_i32_422
  let v626 : BitVec 32 := Scalar.addi c0_i32_423 v625
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_424 : BitVec 32 := 1#32
  let v627 : BitVec 32 := Scalar.muli v5 c1_i32_424
  let v628 : BitVec 32 := Scalar.addi v626 v627
  v628.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x512 : Shape := ⟨2, ![2048, 512]⟩

abbrev nBuf : Space → Nat
  | .hbm => 2
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Steps.lean ====
module

public import proofs.«01_k».proof.Proof.Gen.KernelIdeal.Skeleton
public import proofs.«01_k».proof.Proof.Gen.KernelIdeal.Launch

/-! The kernel's body as a structured program: every chunk's operations are one program in the
chunk's number, and each phase runs its program over a list of chunks. -/

@[expose] public section

noncomputable section

namespace Cert.KernelIdeal.Steps

open Idealize.ShloMosaic Idealize.SL.Sem
open Cert.KernelIdeal.Gen

variable {F : FTy → Type} [FloatOps F]

/-- The programs of a device's core that return nothing. -/
abbrev PR (F : FTy → Type) [FloatOps F] := Prog (TpuEff nD τ sig (Elt F) Λ₀ .tc) PUnit

/-- A program for each number of a list, in order. -/
def each (f : Fin 16 → PR F) : List (Fin 16) → PR F
  | [] => .ret ⟨⟩
  | r :: l => f r >>= fun _ => each f l

/-- The chunks in order. -/
abbrev chunks : List (Fin 16) := [0, 1, 2, 3, 4, 5, 6, 7, 8, 9, 10, 11, 12, 13, 14, 15]
/-- The chunks in order, but the first. -/
abbrev chunksRest : List (Fin 16) := [1, 2, 3, 4, 5, 6, 7, 8, 9, 10, 11, 12, 13, 14, 15]

/-- One of sixteen semaphores in a row lies in the row. -/
theorem inb16 (r : Fin 16) : ∀ a, (![r.val] : Fin 1 → Nat) a + S1.size a ≤ S16.size a := by
  revert r; decide

/-- One of three semaphores in a row lies in the row. -/
theorem inb3 (k : Fin 3) : ∀ a, (![k.val] : Fin 1 → Nat) a + S1.size a ≤ S3.size a := by
  revert k; decide

/-- The `r`-th semaphore of an array of sixteen. -/
abbrev semAt (a : DmaSems sig S16) (r : Fin 16) : DmaSem sig :=
  ((a.slice (Rect.unit (s := S16) ![r.val] S1.size (inb16 r))).squeeze S_ squeezes_S1_S_).sem

/-- The `k`-th semaphore of the three that the copies of the argument signal. -/
abbrev inSem (k : Fin 3) : DmaSem sig :=
  ((cc0_scratch1.slice (Rect.unit (s := S3) ![k.val] S1.size (inb3 k))).squeeze S_ squeezes_S1_S_).sem

/-- The barrier's semaphore. -/
abbrev barS : Sem sig := (SemArray.scalar (sig.barrier 0 rfl) : Sems sig S_).sem

/-- A chunk's distance from its half's first row, as the kernel computes it. -/
abbrev dist (r : Fin 16) : BitVec 32 := BitVec.ofNat 32 (32 * r.val)

abbrev argM : Memref sig .tc .hbm S1024x512 .f32 := Memref.whole main_arg0
abbrev outM : Memref sig .tc .vmem S2048x512 .bf16 := Memref.whole cc0_stg0_0
abbrev xvM : Memref sig .tc .vmem S1024x512 .f32 := Memref.whole cc0_scratch0
theorem outW : outM.IsWhole := Memref.isWhole_whole _

/-- The rows a device sends along `y`: chunk `r` of them. -/
abbrev wireM (d : Dev nD) (r : Fin 16) : Memref sig .tc .vmem S32x512 .bf16 :=
  outM.slice (Rect.unit (s := S2048x512) (k0_off6 d (dist r)) S32x512.size (k0_off6_inb d r)) (fun _ => rfl)

/-- The rows a device forwards along `x`: chunk `r` of them. -/
abbrev landM (d : Dev nD) (r : Fin 16) : Memref sig .tc .vmem S32x512 .bf16 :=
  outM.slice (Rect.unit (s := S2048x512) (k0_off9 d (dist r)) S32x512.size (k0_off9_inb d r)) (fun _ => rfl)

/-- The rows a device converts and stores before it sends them: chunk `r` of them. -/
abbrev storeR (d : Dev nD) (r : Fin 16) : Rect S2048x512 :=
  Rect.unit (s := S2048x512) (k0_off5 d (dist r)) S32x512.size (k0_off5_inb d r)

/-- The rows of the staged argument that chunk `r` reads. -/
abbrev loadR (d : Dev nD) (r : Fin 16) : Rect S1024x512 :=
  Rect.unit (s := S1024x512) (k0_off4 d (dist r)) S32x512.size (k0_off4_inb d r)

abbrev xvA (d : Dev nD) : Memref sig .tc .vmem S32x512 .f32 :=
  xvM.slice (Rect.unit (s := S1024x512) (k0_off1 d) S32x512.size (k0_off1_inb d)) (fun _ => rfl)
abbrev argA (d : Dev nD) : Memref sig .tc .hbm S32x512 .f32 :=
  argM.slice (Rect.unit (s := S1024x512) (k0_off1 d) S32x512.size (k0_off1_inb d)) (fun _ => rfl)
abbrev xvB (d : Dev nD) : Memref sig .tc .vmem S480x512 .f32 :=
  xvM.slice (Rect.unit (s := S1024x512) (k0_off2 d) S480x512.size (k0_off2_inb d)) (fun _ => rfl)
abbrev argB (d : Dev nD) : Memref sig .tc .hbm S480x512 .f32 :=
  argM.slice (Rect.unit (s := S1024x512) (k0_off2 d) S480x512.size (k0_off2_inb d)) (fun _ => rfl)
abbrev xvC (d : Dev nD) : Memref sig .tc .vmem S512x512 .f32 :=
  xvM.slice (Rect.unit (s := S1024x512) (k0_off3 d) S512x512.size (k0_off3_inb d)) (fun _ => rfl)
abbrev argC (d : Dev nD) : Memref sig .tc .hbm S512x512 .f32 :=
  argM.slice (Rect.unit (s := S1024x512) (k0_off3 d) S512x512.size (k0_off3_inb d)) (fun _ => rfl)

/-- The three copies of the argument into the core's memory, started. -/
def fill (d : Dev nD) : PR F := do
  Prog.lift (.enqueueDma (argA d) (.here (xvA d)) (.dma (inSem 0)) (View.wordExact_bits rfl) (View.wordExact_bits rfl) ⟨Or.inl rfl, trivial⟩)
  Prog.lift (.enqueueDma (argB d) (.here (xvB d)) (.dma (inSem 1)) (View.wordExact_bits rfl) (View.wordExact_bits rfl) ⟨Or.inl rfl, trivial⟩)
  Prog.lift (.enqueueDma (argC d) (.here (xvC d)) (.dma (inSem 2)) (View.wordExact_bits rfl) (View.wordExact_bits rfl) ⟨Or.inl rfl, trivial⟩)

/-- The barrier: both neighbours signalled, both their signals waited for. -/
def meet (d : Dev nD) : PR F := do
  semSignalWord (⟨k0_dev1 d, k0_dev1_lt d⟩ : Dev nD) barS 1#32
  semSignalWord (⟨k0_dev2 d, k0_dev2_lt d⟩ : Dev nD) barS 1#32
  semWaitWord barS 2#32

/-- Chunk `r` converted and stored. -/
def convert (d : Dev nD) (r : Fin 16) : PR F := do
  let v : Vec F S32x512 .f32 ← Prog.lift (.load xvM (loadR d r).toLoadRect (View.loadsAt_vmem h_S32x512))
  let _ : Vec F S32x512 .bf16 ← Prog.lift (.load outM (storeR d r).toLoadRect (View.loadsAt_vmem h_S32x512))
  Prog.lift (.store outM (storeR d r) (truncf .bf16 v bitsLt_bf16_f32 : FVec F S32x512 .bf16) Finset.univ (View.stores_vmem h_S32x512 (outW.storeExact_slice rfl _ (k0_off5_packedbf16 d r)) (fun _ => rfl)) (.inl rfl))

/-- Chunk `r` converted, stored and sent along `y`. -/
def sendY (d : Dev nD) (r : Fin 16) : PR F :=
  convert d r >>= fun _ =>
  Prog.lift (.enqueueDma (wireM d r) (.remote (Dev.tc (⟨k0_dev3 d, k0_dev3_lt d⟩ : Dev nD)) (wireM d r) (.dma (semAt cc0_scratch2 r))) (.dma (semAt cc0_scratch3 r)) (outW.wordExact_slice rfl _ (k0_off6_wordsbf16 d r)) (outW.wordExact_slice rfl _ (k0_off6_wordsbf16 d r)) ⟨⟨rfl, Or.inl rfl⟩, trivial⟩)

/-- The half of the rows that the device does not send, converted and stored. -/
def keep (d : Dev nD) : PR F := do
  let v : Vec F S512x512 .f32 ← Prog.lift (.load xvM (Rect.unit (s := S1024x512) (k0_off7 d) S512x512.size (k0_off7_inb d)).toLoadRect (View.loadsAt_vmem h_S512x512))
  let _ : Vec F S512x512 .bf16 ← Prog.lift (.load outM (Rect.unit (s := S2048x512) (k0_off8 d) S512x512.size (k0_off8_inb d)).toLoadRect (View.loadsAt_vmem h_S512x512))
  Prog.lift (.store outM (Rect.unit (s := S2048x512) (k0_off8 d) S512x512.size (k0_off8_inb d)) (truncf .bf16 v bitsLt_bf16_f32 : FVec F S512x512 .bf16) Finset.univ (View.stores_vmem h_S512x512 (outW.storeExact_slice rfl _ (k0_off8_packedbf16 d)) (fun _ => rfl)) (.inl rfl))

/-- A wait for a chunk to have come along `y` or to have left. -/
def waitW (a : DmaSems sig S16) (d : Dev nD) (r : Fin 16) : PR F :=
  Prog.lift (.waitDma2 (semAt a r) (wireM d r) (wireM d r) (outW.wordExact_slice rfl _ (k0_off6_wordsbf16 d r)) (outW.wordExact_slice rfl _ (k0_off6_wordsbf16 d r)))

/-- A wait for a chunk to have come along `x` or to have been forwarded. -/
def waitL (a : DmaSems sig S16) (d : Dev nD) (r : Fin 16) : PR F :=
  Prog.lift (.waitDma2 (semAt a r) (landM d r) (landM d r) (outW.wordExact_slice rfl _ (k0_off9_wordsbf16 d r)) (outW.wordExact_slice rfl _ (k0_off9_wordsbf16 d r)))

/-- Chunk `r` waited for and forwarded along `x`. -/
def sendX (d : Dev nD) (r : Fin 16) : PR F := do
  waitW cc0_scratch3 d r
  Prog.lift (.enqueueDma (landM d r) (.remote (Dev.tc (⟨k0_dev19 d, k0_dev19_lt d⟩ : Dev nD)) (landM d r) (.dma (semAt cc0_scratch4 r))) (.dma (semAt cc0_scratch5 r)) (outW.wordExact_slice rfl _ (k0_off9_wordsbf16 d r)) (outW.wordExact_slice rfl _ (k0_off9_wordsbf16 d r)) ⟨⟨rfl, Or.inl rfl⟩, trivial⟩)

/-- The whole body of device `d`. -/
def body (d : Dev nD) : PR F := do
  fill d
  meet d
  Prog.lift (.waitDma2 (inSem 0) (argA d) (xvA d) (View.wordExact_bits rfl) (View.wordExact_bits rfl))
  sendY d 0
  Prog.lift (.waitDma2 (inSem 1) (argB d) (xvB d) (View.wordExact_bits rfl) (View.wordExact_bits rfl))
  each (sendY d) chunksRest
  Prog.lift (.waitDma2 (inSem 2) (argC d) (xvC d) (View.wordExact_bits rfl) (View.wordExact_bits rfl))
  keep d
  each (sendX d) chunks
  each (waitL cc0_scratch5 d) chunks
  each (fun r => waitW cc0_scratch2 d r >>= fun _ => waitL cc0_scratch4 d r) chunks

set_option maxRecDepth 100000 in
set_option maxHeartbeats 4000000 in
/-- The printed body is the structured one. -/
theorem cc0_body_eq (h0) (h1) (h2) :
    cc0_body (F := F) argM h0 outM h1 xvM h2 cc0_scratch1 cc0_scratch2 cc0_scratch3 cc0_scratch4 cc0_scratch5
      = (Prog.lift .deviceId : Prog (TpuEff nD τ sig (Elt F) Λ₀ .tc) (Dev nD)) >>= fun d => body d := rfl

end Cert.KernelIdeal.Steps
-- ==== Proof.Mesh.lean ====
module

public import proofs.«01_k».proof.Proof.Steps
public import Idealize.ShloMosaic.Lib.Pipeline.Launch
public import Idealize.ShloMosaic.Lib.Pipeline.Kit
public import Idealize.ShloMosaic.Lib.Tactic

/-! The mesh of two by two devices, the rows of the buffers that its transfers move, and what the
gathered buffer holds. -/

@[expose] public section

noncomputable section

namespace Cert.KernelIdeal.Gather

open Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Neighbours -/

set_option backward.proofsInPublic true in
/-- The neighbour along `y`: the device in the same row of the mesh, which holds the other half of the rows. -/
def yn (c : Dev nD) : Dev nD := ⟨2 * (c.val / 2) + 1 - c.val % 2, by have := c.isLt; change c.val < 4 at this; show _ < 4; omega⟩
set_option backward.proofsInPublic true in
/-- The neighbour along `x`: the device in the same column of the mesh, which holds the same rows. -/
def xn (c : Dev nD) : Dev nD := ⟨c.val % 2 + 2 - 2 * (c.val / 2), by have := c.isLt; change c.val < 4 at this; show _ < 4; omega⟩

theorem yn_yn (c : Dev nD) : yn (yn c) = c := by revert c; decide
theorem xn_xn (c : Dev nD) : xn (xn c) = c := by revert c; decide

theorem dev1_eq (c : Dev nD) : (⟨k0_dev1 c, k0_dev1_lt c⟩ : Dev nD) = yn c := Fin.ext (k0_dev1_eq c)
theorem dev2_eq (c : Dev nD) : (⟨k0_dev2 c, k0_dev2_lt c⟩ : Dev nD) = xn c := Fin.ext (k0_dev2_eq c)
theorem dev3_eq (c : Dev nD) : (⟨k0_dev3 c, k0_dev3_lt c⟩ : Dev nD) = yn c := Fin.ext (k0_dev3_eq c)
theorem dev19_eq (c : Dev nD) : (⟨k0_dev19 c, k0_dev19_lt c⟩ : Dev nD) = xn c := Fin.ext (k0_dev19_eq c)

def alongY : Dev nD ≃ Dev nD := ⟨yn, yn, yn_yn, yn_yn⟩
def alongX : Dev nD ≃ Dev nD := ⟨xn, xn, xn_xn, xn_xn⟩

/-! ## First rows -/

/-- Of the argument: the half a device sends, the other half. -/
def src0 (c : Dev nD) : ℕ := 512 * (c.val / 2)
def oth0 (c : Dev nD) : ℕ := 512 * (1 - c.val / 2)
/-- Of the result: the rows a device sends along `y`, its own other rows, the rows that land along
    `y` and are forwarded, the rows that land along `x`. -/
def wire0 (c : Dev nD) : ℕ := 1024 * (c.val % 2) + 512 * (c.val / 2)
def keep0 (c : Dev nD) : ℕ := 1024 * (c.val % 2) + 512 * (1 - c.val / 2)
def land0 (c : Dev nD) : ℕ := 1024 * (1 - c.val % 2) + 512 * (c.val / 2)
def far0 (c : Dev nD) : ℕ := 1024 * (1 - c.val % 2) + 512 * (1 - c.val / 2)

/-- What a device sends along `y` lands where its neighbour expects it, and so along `x`. -/
theorem land_yn (c : Dev nD) : land0 (yn c) = wire0 c := by revert c; decide
theorem wire_yn (c : Dev nD) : wire0 (yn c) = land0 c := by revert c; decide
theorem land_xn (c : Dev nD) : land0 (xn c) = far0 c := by revert c; decide
theorem far_xn (c : Dev nD) : far0 (xn c) = land0 c := by revert c; decide

/-! ## Row ranges -/

/-- The elements of the rows `a, …, a + n - 1` of a buffer of 512 columns. -/
def rows {R : ℕ} (a n : ℕ) : Finset (⟨2, ![R, 512]⟩ : Shape).Idx :=
  Finset.univ.filter fun i => a ≤ (i 0).val ∧ (i 0).val < a + n

theorem mem_rows {R a n : ℕ} {i : (⟨2, ![R, 512]⟩ : Shape).Idx} : i ∈ rows a n ↔ a ≤ (i 0).val ∧ (i 0).val < a + n := by
  unfold rows; rw [Finset.mem_filter]; exact and_iff_right (Finset.mem_univ _)

theorem rows_add {R : ℕ} (a n k : ℕ) : (rows a (n + k) : Finset (⟨2, ![R, 512]⟩ : Shape).Idx) = rows a n ∪ rows (a + n) k := by
  ext i; rw [Finset.mem_union, mem_rows, mem_rows, mem_rows]; omega

theorem rows_disjoint {R : ℕ} (a n b k : ℕ) (h : a + n ≤ b ∨ b + k ≤ a) :
    Disjoint (rows a n : Finset (⟨2, ![R, 512]⟩ : Shape).Idx) (rows b k) := by
  refine Finset.disjoint_left.mpr fun i h1 h2 => ?_
  rw [mem_rows] at h1 h2; omega

theorem rows_zero {R : ℕ} (a : ℕ) : (rows a 0 : Finset (⟨2, ![R, 512]⟩ : Shape).Idx) = ∅ := by
  ext i; rw [mem_rows]; exact ⟨fun h => by omega, fun h => absurd h (Finset.notMem_empty i)⟩

theorem rows_all {R : ℕ} : (rows 0 R : Finset (⟨2, ![R, 512]⟩ : Shape).Idx) = Finset.univ := by
  ext i; rw [mem_rows]
  exact ⟨fun _ => Finset.mem_univ i, fun _ => ⟨Nat.zero_le _, by have := (i 0).isLt; rw [Nat.zero_add]; exact this⟩⟩

/-- The elements of a rectangle of whole rows. -/
theorem rect_rows {R : ℕ} (off size : Fin 2 → ℕ) (inb) (a n : ℕ) (ho : off = ![a, 0]) (hs : size = ![n, 512]) :
    (Rect.unit (s := (⟨2, ![R, 512]⟩ : Shape)) off size inb).set = rows a n := by
  subst ho hs
  ext i
  rw [Rect.mem_set_unit, mem_rows]
  refine ⟨fun h => h 0, fun h k => ?_⟩
  match k with
  | 0 => exact h
  | 1 => exact ⟨Nat.zero_le _, by have := (i 1).isLt; show _ < 0 + 512; rw [Nat.zero_add]; exact this⟩

/-! ## What the buffers hold -/

variable (m : (ℓ : Loc nD τ sig) → Buf (Elt F) ℓ)

/-- Device `c`'s argument. -/
abbrev arg (c : Dev nD) : S1024x512.Idx → F .f32 := m ((c : Thread nD τ).loc main_arg0)

/-- The index of row `i` modulo the argument's height, in the same column. -/
def srcIdx (i : S2048x512.Idx) : S1024x512.Idx :=
  fun | ⟨0, _⟩ => (⟨(i 0).val % 1024, Nat.mod_lt _ (by decide)⟩ : Fin 1024) | ⟨1, _⟩ => (i 1 : Fin 512)

/-- The device whose argument reaches row `i` of device `c`'s result: itself for its own half, its
    neighbour along `y` for the rows that come along `y`, that of its neighbour along `x` for the
    rows that come along `x`. -/
def from_ (c : Dev nD) (i : ℕ) : Dev nD :=
  if i / 1024 = c.val % 2 then c else if i % 1024 / 512 = c.val / 2 then yn c else yn (xn c)

/-- Device `c`'s result. -/
def outAt (c : Dev nD) : S2048x512.Idx → F .bf16 :=
  fun i => FloatOps.truncf .bf16 bitsLt_bf16_f32 (arg m (from_ c (i 0).val) (srcIdx i))

/-- Which device a row comes from depends on its half of the result and its quarter only. -/
theorem from_self (c : Dev nD) (i : ℕ) (h : i / 1024 = c.val % 2) : from_ c i = c := by unfold from_; exact if_pos h

theorem from_yn (c : Dev nD) (i : ℕ) (h1 : wire0 c ≤ i) (h2 : i < wire0 c + 512) : from_ (yn c) i = c := by
  unfold wire0 at h1 h2
  have hc : c.val < 4 := c.isLt
  have hd : i / 1024 = c.val % 2 := by omega
  have hq : i % 1024 / 512 = c.val / 2 := by omega
  unfold from_; rw [hd, hq]; clear hd hq h1 h2 hc; revert c; decide

theorem from_xn (c : Dev nD) (i : ℕ) (h1 : land0 c ≤ i) (h2 : i < land0 c + 512) : from_ (xn c) i = from_ c i := by
  unfold land0 at h1 h2
  have hc : c.val < 4 := c.isLt
  have hd : i / 1024 = 1 - c.val % 2 := by omega
  have hq : i % 1024 / 512 = c.val / 2 := by omega
  unfold from_; rw [hd, hq]; clear hd hq h1 h2 hc; revert c; decide

/-- A neighbour's result agrees with a device's own on the rows the device sends it. -/
theorem outAt_yn (c : Dev nD) (i : S2048x512.Idx) (h1 : wire0 c ≤ (i 0).val) (h2 : (i 0).val < wire0 c + 512) :
    outAt m (yn c) i = outAt m c i := by
  unfold outAt; rw [from_yn c _ h1 h2, from_self]
  unfold wire0 at h1 h2; have hc : c.val < 4 := c.isLt; omega

theorem outAt_xn (c : Dev nD) (i : S2048x512.Idx) (h1 : land0 c ≤ (i 0).val) (h2 : (i 0).val < land0 c + 512) :
    outAt m (xn c) i = outAt m c i := by
  unfold outAt; rw [from_xn c _ h1 h2]

/-- What a store of converted rows of the argument leaves, where the rows stored are the rows loaded. -/
theorem stored (c : Dev nD) {off off' size : Fin 2 → ℕ} {inb} {inb'} (a b n : ℕ) (ho : off = ![a, 0]) (ho' : off' = ![b, 0]) (hs : size = ![n, 512])
    (hrow : ∀ k, k < n → (b + k) % 1024 = a + k ∧ from_ c (b + k) = c) (f : S2048x512.Idx → F .bf16) :
    ∀ i ∈ ((outM.access (Rect.unit (s := S2048x512) off' size inb')) : View sig .tc _ _ _).set,
      ((outM.access (Rect.unit (s := S2048x512) off' size inb')) : View sig .tc _ _ _).write (Elt F) f
        (truncf .bf16 (xvM.view.readAt (Elt F) (Rect.unit (s := S1024x512) off size inb).toLoadRect (arg m c) : FVec F (Rect.unit (s := S1024x512) off size inb).shape .f32) bitsLt_bf16_f32 : FVec F (Rect.unit (s := S1024x512) off size inb).shape .bf16)
        Finset.univ i = outAt m c i := by
  subst ho ho' hs
  intro i hi
  obtain ⟨x, -, rfl⟩ := Finset.mem_map.mp hi
  rw [View.write_emb_of_mem _ _ (Finset.mem_univ _)]
  obtain ⟨hr, hf⟩ := hrow (x 0).val (x 0).isLt
  have h0 : ((((outM.access (Rect.unit (s := S2048x512) ![b, 0] ![n, 512] inb')) : View sig .tc _ _ _).emb x : S2048x512.Idx) 0).val = b + (x 0).val := by
    show b + 1 * (x 0).val = _; rw [Nat.one_mul]
  have h1 : ((((outM.access (Rect.unit (s := S2048x512) ![b, 0] ![n, 512] inb')) : View sig .tc _ _ _).emb x : S2048x512.Idx) 1).val = 0 + (x 1).val := by
    show 0 + 1 * (x 1).val = _; rw [Nat.one_mul]
  show FloatOps.truncf .bf16 bitsLt_bf16_f32 (arg m c ((Rect.unit (s := S1024x512) ![a, 0] ![n, 512] inb).emb x)) = _
  unfold outAt
  rw [h0, hf]
  refine congrArg _ (congrArg _ (funext fun k => ?_))
  match k with
  | ⟨0, _⟩ => refine Fin.ext ?_; show a + 1 * (x 0).val = _ % 1024; rw [h0, hr, Nat.one_mul]
  | ⟨1, _⟩ => refine Fin.ext ?_; show 0 + 1 * (x 1).val = _; rw [Nat.one_mul]; exact h1.symm

/-- What a transfer between equal views leaves on the view is what the source held there. -/
theorem write_read_same {κ : Kind} {sp : Space} {s : Shape} {e : EltTy} (v : View sig κ sp s e) (fd fs : v.ty.Contents (Elt F)) :
    ∀ i ∈ v.set, v.write (Elt F) fd (v.read (Elt F) fs) Finset.univ i = fs i := by
  intro i hi
  obtain ⟨x, -, rfl⟩ := Finset.mem_map.mp hi
  rw [View.write_emb_of_mem _ _ (Finset.mem_univ _), View.read_apply, cast_cast, cast_eq]

/-- What a copy of rows of the argument leaves in the core's memory is the argument, on those rows. -/
theorem staged {off size : Fin 2 → ℕ} {inb} (fd fs : S1024x512.Idx → F .f32) :
    ∀ i ∈ ((View.whole cc0_scratch0).slice (Rect.unit (s := S1024x512) off size inb)).set,
      ((View.whole cc0_scratch0).slice (Rect.unit (s := S1024x512) off size inb)).write (Elt F) fd
        (((View.whole main_arg0).slice (Rect.unit (s := S1024x512) off size inb)).read (Elt F) fs) Finset.univ i = fs i := by
  intro i hi
  obtain ⟨x, -, rfl⟩ := Finset.mem_map.mp hi
  rw [View.write_emb_of_mem _ _ (Finset.mem_univ _)]
  rfl

end Cert.KernelIdeal.Gather
-- ==== Proof.Schedule.lean ====
module

public import proofs.«01_k».proof.Proof.Mesh

/-! The protocol: what each semaphore's signals hand over, what a device owes, in what order the
semaphores are waited on. -/

@[expose] public section

noncomputable section

namespace Cert.KernelIdeal.Gather

open Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- The rows `a, …, a + n - 1` of a device's result, of its copy of the argument in the core's
    memory, of its argument. -/
def outR (c : Dev nD) (a n : ℕ) (f : S2048x512.Idx → F .bf16) : sProp 𝕄 :=
  ((c : Thread nD τ).loc cc0_stg0_0) ↦[rows a n]{fullShare} f
def xvR (c : Dev nD) (a n : ℕ) (f : S1024x512.Idx → F .f32) : sProp 𝕄 :=
  ((c : Thread nD τ).loc cc0_scratch0) ↦[rows a n]{fullShare} f
def argR (c : Dev nD) (a n : ℕ) (f : S1024x512.Idx → F .f32) : sProp 𝕄 :=
  ((c : Thread nD τ).loc main_arg0) ↦[rows a n]{fullShare} f

omit [FloatOps F] in
instance outR_storable (c : Dev nD) (a n f) : BI.Storable (upEmb : UEmb _ 𝕄) (outR (F := F) c a n f) := by unfold outR; infer_instance
omit [FloatOps F] in
instance xvR_storable (c : Dev nD) (a n f) : BI.Storable (upEmb : UEmb _ 𝕄) (xvR (F := F) c a n f) := by unfold xvR; infer_instance
omit [FloatOps F] in
instance argR_storable (c : Dev nD) (a n f) : BI.Storable (upEmb : UEmb _ 𝕄) (argR (F := F) c a n f) := by unfold argR; infer_instance

/-! ## Semaphores and cells -/

/-- The semaphores of a chunk: it left along `y`, came along `y`, left along `x`, came along `x`. -/
abbrev sY (r : Fin 16) : DmaSem sig := semAt cc0_scratch2 r
abbrev rY (r : Fin 16) : DmaSem sig := semAt cc0_scratch3 r
abbrev sX (r : Fin 16) : DmaSem sig := semAt cc0_scratch4 r
abbrev rX (r : Fin 16) : DmaSem sig := semAt cc0_scratch5 r

theorem inSem_val (k : Fin 3) : (inSem k : Fin 68).val = 1 + k.val := by revert k; decide
theorem sY_val (r : Fin 16) : (sY r : Fin 68).val = 4 + r.val := by revert r; decide
theorem rY_val (r : Fin 16) : (rY r : Fin 68).val = 20 + r.val := by revert r; decide
theorem sX_val (r : Fin 16) : (sX r : Fin 68).val = 36 + r.val := by revert r; decide
theorem rX_val (r : Fin 16) : (rX r : Fin 68).val = 52 + r.val := by revert r; decide

abbrev barCell (c : Dev nD) : GSem nD τ sig := ((c : Thread nD τ), .reg barS)
abbrev dmaCell (c : Dev nD) (q : DmaSem sig) : GSem nD τ sig := ((c : Thread nD τ), .dma q)

/-! ## The payloads -/

/-- The rows of the argument that each of the three copies moves. -/
def in0 (c : Dev nD) (k : ℕ) : ℕ := if k = 1 then src0 c else if k = 2 then src0 c + 32 else oth0 c
def inN (k : ℕ) : ℕ := if k = 1 then 32 else if k = 2 then 480 else 512

/-- What the semaphore numbered `k` hands device `c`: copied rows of the argument with the rows they
    were copied from; a chunk that left along `y`, came along `y`, left along `x`, came along `x`. -/
def dmaPay (c : Dev nD) (k : ℕ) : sProp 𝕄 :=
  if k < 4 then iprop(xvR c (in0 c k) (inN k) (arg m c) ∗ argR c (in0 c k) (inN k) (arg m c))
  else if k < 20 then outR c (wire0 c + 32 * (k - 4)) 32 (outAt m c)
  else if k < 36 then outR c (land0 c + 32 * (k - 20)) 32 (outAt m c)
  else if k < 52 then outR c (land0 c + 32 * (k - 36)) 32 (outAt m c)
  else outR c (far0 c + 32 * (k - 52)) 32 (outAt m c)

/-- What the barrier hands device `c`: the rows of its two neighbours that it will fill. -/
def barPay (c : Dev nD) (d : Bool) : sProp 𝕄 :=
  if d then iprop(∃ f, outR (xn c) (land0 c) 512 f) else iprop(∃ f, outR (yn c) (wire0 c) 512 f)

/-- What a transfer of a chunk credits, and the three copies of the argument. -/
abbrev N : ℕ := (wireM (0 : Fin 4) 0).view.dmaCredit
def amt (k : ℕ) : ℕ :=
  if k = 1 then (xvA (0 : Fin 4)).view.dmaCredit else if k = 2 then (xvB (0 : Fin 4)).view.dmaCredit
  else if k = 3 then (xvC (0 : Fin 4)).view.dmaCredit else N

theorem amt_pos (k : ℕ) : 0 < amt k := by
  unfold amt; (repeat' split) <;> exact View.dmaCredit_pos _ (by decide)

/-- One round: the barrier's two signals, one transfer on each other semaphore but the first. -/
def Rd : Rounds.Schedule (GSem nD τ sig) Bool 𝕄 where
  duties g r := if r = 0 ∧ g.1.2 = .tc then (match g.2 with
    | .reg _ => Finset.univ
    | .dma q => if (q : Fin 68).val = 0 then ∅ else {false}) else ∅
  unitless _ := False
  amount g _ _ := match g.2 with
    | .reg _ => 1
    | .dma q => amt (q : Fin 68).val
  payload g _ d := match g.2 with
    | .reg _ => barPay g.1.1 d
    | .dma q => dmaPay m g.1.1 (q : Fin 68).val
  amount_pos g _ _ _ := by
    split
    · exact Nat.one_pos
    · exact amt_pos _

instance dmaPay_storable (c : Dev nD) (k : ℕ) : BI.Storable (upEmb : UEmb _ 𝕄) (dmaPay (F := F) m c k) := by
  unfold dmaPay; (repeat' split) <;> infer_instance
omit [FloatOps F] in
instance barPay_storable (c : Dev nD) (d : Bool) : BI.Storable (upEmb : UEmb _ 𝕄) (barPay (F := F) c d) := by
  unfold barPay; split <;> infer_instance
instance Rd_storable (g : GSem nD τ sig) (r : ℕ) (d : Bool) : BI.Storable (upEmb : UEmb _ 𝕄) ((Rd (F := F) m).payload g r d) := by
  show BI.Storable upEmb (match g.2 with
    | .reg _ => barPay g.1.1 d
    | .dma q => dmaPay m g.1.1 (q : Fin 68).val)
  split <;> infer_instance

variable (c : Dev nD)

theorem duties_bar : (Rd (F := F) m).duties (barCell c) 0 = Finset.univ := by
  dsimp only [Rd]; exact if_pos ⟨rfl, rfl⟩
theorem duties_dma (q : DmaSem sig) (hq : (q : Fin 68).val ≠ 0) : (Rd (F := F) m).duties (dmaCell c q) 0 = {false} := by
  dsimp only [Rd]; rw [if_pos ⟨rfl, rfl⟩]; exact if_neg hq
theorem duties_later (g : GSem nD τ sig) : ∀ r, 1 ≤ r → (Rd (F := F) m).duties g r = ∅ :=
  fun r hr => by dsimp only [Rd]; exact if_neg fun h => by omega

theorem amount_bar (d : Bool) : (Rd (F := F) m).amount (barCell c) 0 d = 1 := rfl
theorem amount_dma (q : DmaSem sig) (d : Bool) : (Rd (F := F) m).amount (dmaCell c q) 0 d = amt (q : Fin 68).val := rfl
theorem expect_bar : (Rd (F := F) m).expect (barCell c) 0 = 2 := by
  unfold Schedule.expect Schedule.amountOf; rw [duties_bar]; rfl
theorem expect_dma (q : DmaSem sig) (hq : (q : Fin 68).val ≠ 0) : (Rd (F := F) m).expect (dmaCell c q) 0 = amt (q : Fin 68).val := by
  unfold Schedule.expect Schedule.amountOf; rw [duties_dma m c q hq, Finset.sum_singleton]; rfl

/-- What a wait for a whole round of a cell hands over. -/
theorem rest_bar : bigSep ((Rd (F := F) m).duties (barCell c) 0 \ ∅) (fun d => (Rd (F := F) m).payload (barCell c) 0 d)
    = iprop((∃ f, outR (yn c) (wire0 c) 512 f) ∗ ∃ f, outR (xn c) (land0 c) 512 f) := by
  rw [Finset.sdiff_empty, duties_bar, bigSep_univ_eq_bigSepL [false, true] (by decide) (by decide), bigSepL_cons_cons, bigSepL_singleton]
  rfl
theorem rest_dma (q : DmaSem sig) (hq : (q : Fin 68).val ≠ 0) :
    bigSep ((Rd (F := F) m).duties (dmaCell c q) 0 \ ∅) (fun d => (Rd (F := F) m).payload (dmaCell c q) 0 d) = dmaPay m c (q : Fin 68).val := by
  rw [Finset.sdiff_empty, duties_dma m c q hq, bigSep_singleton]; rfl

/-! The payloads by the semaphores' names. -/

theorem pay_in (k : Fin 3) : dmaPay (F := F) m c (inSem k : Fin 68).val
    = iprop(xvR c (in0 c (1 + k.val)) (inN (1 + k.val)) (arg m c) ∗ argR c (in0 c (1 + k.val)) (inN (1 + k.val)) (arg m c)) := by
  rw [inSem_val]; unfold dmaPay; rw [if_pos (by omega)]
theorem pay_sY (r : Fin 16) : dmaPay (F := F) m c (sY r : Fin 68).val = outR c (wire0 c + 32 * r.val) 32 (outAt m c) := by
  rw [sY_val]; unfold dmaPay; rw [if_neg (by omega), if_pos (by omega), Nat.add_sub_cancel_left]
theorem pay_rY (r : Fin 16) : dmaPay (F := F) m c (rY r : Fin 68).val = outR c (land0 c + 32 * r.val) 32 (outAt m c) := by
  rw [rY_val]; unfold dmaPay; rw [if_neg (by omega), if_neg (by omega), if_pos (by omega), Nat.add_sub_cancel_left]
theorem pay_sX (r : Fin 16) : dmaPay (F := F) m c (sX r : Fin 68).val = outR c (land0 c + 32 * r.val) 32 (outAt m c) := by
  rw [sX_val]; unfold dmaPay
  rw [if_neg (by omega), if_neg (by omega), if_neg (by omega), if_pos (by omega), Nat.add_sub_cancel_left]
theorem pay_rX (r : Fin 16) : dmaPay (F := F) m c (rX r : Fin 68).val = outR c (far0 c + 32 * r.val) 32 (outAt m c) := by
  rw [rX_val]; unfold dmaPay
  rw [if_neg (by omega), if_neg (by omega), if_neg (by omega), if_neg (by omega), Nat.add_sub_cancel_left]

theorem amt_chunk (k : ℕ) (h : 4 ≤ k) : amt k = N := by
  unfold amt; rw [if_neg (by omega), if_neg (by omega), if_neg (by omega)]
theorem amt_sY (r : Fin 16) : amt (sY r : Fin 68).val = N := amt_chunk _ (by rw [sY_val]; omega)
theorem amt_rY (r : Fin 16) : amt (rY r : Fin 68).val = N := amt_chunk _ (by rw [rY_val]; omega)
theorem amt_sX (r : Fin 16) : amt (sX r : Fin 68).val = N := amt_chunk _ (by rw [sX_val]; omega)
theorem amt_rX (r : Fin 16) : amt (rX r : Fin 68).val = N := amt_chunk _ (by rw [rX_val]; omega)
theorem sY_ne (r : Fin 16) : (sY r : Fin 68).val ≠ 0 := by rw [sY_val]; omega
theorem rY_ne (r : Fin 16) : (rY r : Fin 68).val ≠ 0 := by rw [rY_val]; omega
theorem sX_ne (r : Fin 16) : (sX r : Fin 68).val ≠ 0 := by rw [sX_val]; omega
theorem rX_ne (r : Fin 16) : (rX r : Fin 68).val ≠ 0 := by rw [rX_val]; omega
theorem inSem_ne (k : Fin 3) : (inSem k : Fin 68).val ≠ 0 := by rw [inSem_val]; omega

/-! ## What a device owes -/

/-- The credit a device owes its neighbours for the chunks of a list: along `y`, along `x`. -/
def dueY (c : Dev nD) : List (Fin 16) → CellTallies nD τ sig Unit
  | [] => 0
  | r :: l => dueY c l + tallyAt (dmaCell (yn c) (rY r)) () N
def dueX (c : Dev nD) : List (Fin 16) → CellTallies nD τ sig Unit
  | [] => 0
  | r :: l => dueX c l + tallyAt (dmaCell (xn c) (rX r)) () N

/-- After the barrier's signals, and at launch. -/
def O₂ (c : Dev nD) : CellTallies nD τ sig Unit := dueX c chunks + dueY c chunks
def O₁ (c : Dev nD) : CellTallies nD τ sig Unit := O₂ c + tallyAt (barCell (xn c)) () 1
def O₀ (c : Dev nD) : CellTallies nD τ sig Unit := O₁ c + tallyAt (barCell (yn c)) () 1

theorem dueY_pos {l : List (Fin 16)} {g : GSem nD τ sig} {u : Unit} (h : 0 < dueY c l g u) : ∃ r, g = dmaCell (yn c) (rY r) := by
  induction l with
  | nil => exact absurd h (Nat.lt_irrefl 0)
  | cons r l ih =>
    unfold dueY at h
    rw [Pi.add_apply, Finsupp.add_apply, tallyAt_apply] at h
    by_cases hg : g = dmaCell (yn c) (rY r) ∧ u = ()
    · exact ⟨r, hg.1⟩
    · rw [if_neg hg] at h; exact ih h
theorem dueX_pos {l : List (Fin 16)} {g : GSem nD τ sig} {u : Unit} (h : 0 < dueX c l g u) : ∃ r, g = dmaCell (xn c) (rX r) := by
  induction l with
  | nil => exact absurd h (Nat.lt_irrefl 0)
  | cons r l ih =>
    unfold dueX at h
    rw [Pi.add_apply, Finsupp.add_apply, tallyAt_apply] at h
    by_cases hg : g = dmaCell (xn c) (rX r) ∧ u = ()
    · exact ⟨r, hg.1⟩
    · rw [if_neg hg] at h; exact ih h

/-! ## The order of the waits -/

def L (g : GSem nD τ sig) : Finset Unit := if g.1.2 = .tc then {()} else ∅
/-- The barrier at 1, arrivals along `y` at 2, along `x` at 3, all else at 0. -/
def lv (g : GSem nD τ sig) (_ : Unit) : ℕ := match g.2 with
  | .reg _ => 1
  | .dma q => if (q : Fin 68).val < 20 then 0 else if (q : Fin 68).val < 36 then 2 else if (q : Fin 68).val < 52 then 0 else 3

theorem L_of_ne (g : GSem nD τ sig) (h : g.1.2 ≠ .tc) : L g = ∅ := if_neg h
theorem L_tc (c : Dev nD) (sm : SemLoc sig) : L ((c : Thread nD τ), sm) = {()} := if_pos rfl

theorem lv_rY (r : Fin 16) : lv (dmaCell c (rY r)) () = 2 := by
  show (if (rY r : Fin 68).val < 20 then 0 else if (rY r : Fin 68).val < 36 then 2 else if (rY r : Fin 68).val < 52 then 0 else 3) = 2
  rw [rY_val, if_neg (by omega), if_pos (by omega)]
theorem lv_rX (r : Fin 16) : lv (dmaCell c (rX r)) () = 3 := by
  show (if (rX r : Fin 68).val < 20 then 0 else if (rX r : Fin 68).val < 36 then 2 else if (rX r : Fin 68).val < 52 then 0 else 3) = 3
  rw [rX_val, if_neg (by omega), if_neg (by omega), if_neg (by omega)]
theorem lv_low (q : DmaSem sig) (h : (q : Fin 68).val < 4) : lv (dmaCell c q) () = 0 := if_pos (by omega)

/-- A device may wait where it owes only higher. -/
theorem mayWait (sm : SemLoc sig) (n : ℕ) (O : CellTallies nD τ sig Unit) (hs : lv ((c : Thread nD τ), sm) () ≤ n)
    (hO : ∀ g u, 0 < O g u → g.1.2 = .tc ∧ n < lv g ()) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem add_pos_cases {O O' : CellTallies nD τ sig Unit} {g : GSem nD τ sig} {u : Unit} (h : 0 < (O + O') g u) : 0 < O g u ∨ 0 < O' g u := by
  rw [Pi.add_apply, Finsupp.add_apply] at h; omega

theorem above_dueX (n : ℕ) (hn : n < 3) (l : List (Fin 16)) (g u) (h : 0 < dueX c l g u) : g.1.2 = .tc ∧ n < lv g () := by
  obtain ⟨r, rfl⟩ := dueX_pos c h; exact ⟨rfl, by rw [lv_rX]; exact hn⟩
theorem above_dueY (n : ℕ) (hn : n < 2) (l : List (Fin 16)) (g u) (h : 0 < dueY c l g u) : g.1.2 = .tc ∧ n < lv g () := by
  obtain ⟨r, rfl⟩ := dueY_pos c h; exact ⟨rfl, by rw [lv_rY]; exact hn⟩
theorem above_due (n : ℕ) (hn : n < 2) (l l' : List (Fin 16)) (g u) (h : 0 < (dueX c l + dueY c l') g u) : g.1.2 = .tc ∧ n < lv g () :=
  (add_pos_cases h).elim (above_dueX c n (by omega) l g u) (above_dueY c n hn l' g u)
theorem above_bar (c' : Dev nD) (k : ℕ) (g u) (h : 0 < (tallyAt (barCell c') () k : CellTallies nD τ sig Unit) g u) : g.1.2 = .tc ∧ 0 < lv g () := by
  rw [tallyAt_apply] at h
  by_cases hg : g = barCell c' ∧ u = ()
  · rw [hg.1]; exact ⟨rfl, Nat.one_pos⟩
  · rw [if_neg hg] at h; exact absurd h (Nat.lt_irrefl 0)
theorem above_O₀ (g u) (h : 0 < O₀ c g u) : g.1.2 = .tc ∧ 0 < lv g () := by
  rcases add_pos_cases h with h | h
  · rcases add_pos_cases h with h | h
    · exact above_due c 0 (by omega) _ _ g u h
    · exact above_bar _ _ g u h
  · exact above_bar _ _ g u h

end Cert.KernelIdeal.Gather
-- ==== Proof.Rules.lean ====
module

public import proofs.«01_k».proof.Proof.Schedule

/-! The kernel's operations under the protocol, each stated once for every chunk and device: copies
of the argument, converted rows, transfers between neighbours, waits, signals. -/

@[expose] public section

noncomputable section

namespace Cert.KernelIdeal.Gather

open Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Programs that run from one assertion to another -/

/-- Device `c` runs `p` from `P` to `Q`. -/
def Runs (c : Dev nD) (P : sProp 𝕄) (p : PR F) (Q : sProp 𝕄) : Prop :=
  P ⊢ wp frame (wpE (defs₀ (F := F)) 𝒱₀ (c : Thread nD τ) none) Set.univ p (fun _ => Q)

theorem runs_bind {c : Dev nD} {P Q R : sProp 𝕄} {p q : PR F} (h : Runs c P p R) (h' : Runs c R q Q) : Runs c P (p >>= fun _ => q) Q := by
  unfold Runs at *; rw [wp_bind]; exact h.trans (wp_mono _ _ _ fun _ => h')
theorem runs_weaken {c : Dev nD} {P P' Q Q' : sProp 𝕄} {p : PR F} (h : Runs c P p Q) (hP : P' ⊢ P) (hQ : Q ⊢ Q') : Runs c P' p Q' :=
  (hP.trans h).trans (wp_mono _ _ _ fun _ => hQ)
theorem runs_frame {c : Dev nD} {P Q R : sProp 𝕄} {p : PR F} (h : Runs c P p Q) : Runs c iprop(P ∗ R) p iprop(Q ∗ R) :=
  (sep_mono_left h).trans (wp_frame_r _ _ _)

/-- An assertion for each number of a list. -/
def eachP (A : Fin 16 → sProp 𝕄) : List (Fin 16) → sProp 𝕄
  | [] => iprop(emp)
  | r :: l => iprop(A r ∗ eachP A l)

omit [FloatOps F] in
theorem eachP_mono {A B : Fin 16 → sProp 𝕄} (h : ∀ r, A r ⊢ B r) : (l : List (Fin 16)) → (eachP A l ⊢ eachP B l)
  | [] => BI.Entails.refl _
  | r :: l => BIClass.sep_mono (h r) (eachP_mono h l)

omit [FloatOps F] in
theorem eachP_sep {A B : Fin 16 → sProp 𝕄} : (l : List (Fin 16)) → (iprop(eachP A l ∗ eachP B l) ⊢ eachP (fun r => iprop(A r ∗ B r)) l)
  | [] => by unfold eachP; iintro -; iempintro
  | r :: l => by
    unfold eachP
    iintro ⟨⟨H1, H2⟩, H3, H4⟩
    isplitl [H1 H3]
    · isplitl [H1] <;> iassumption
    iapply (eachP_sep l)
    isplitl [H2] <;> iassumption

omit [FloatOps F] in
theorem eachP_unsep {A B : Fin 16 → sProp 𝕄} : (l : List (Fin 16)) → (eachP (fun r => iprop(A r ∗ B r)) l ⊢ iprop(eachP A l ∗ eachP B l))
  | [] => by unfold eachP; iintro -; isplitl <;> iempintro
  | r :: l => by
    unfold eachP
    iintro ⟨⟨H1, H2⟩, H3⟩
    ihave H := (eachP_unsep l) $$ H3
    icases H with ⟨H3, H4⟩
    isplitl [H1 H3]
    · isplitl [H1] <;> iassumption
    isplitl [H2] <;> iassumption

omit [FloatOps F] in
/-- Over a list without repetition it is the product over the list's numbers. -/
theorem eachP_eq (A : Fin 16 → sProp 𝕄) : (l : List (Fin 16)) → l.Nodup → eachP A l = bigSep l.toFinset A
  | [], _ => by unfold eachP; rw [List.toFinset_nil, bigSep_empty]; rfl
  | r :: l, h => by
    unfold eachP
    rw [List.toFinset_cons, bigSep_insert (by rw [List.mem_toFinset]; exact (List.nodup_cons.mp h).1), eachP_eq A l (List.nodup_cons.mp h).2]
    rfl

omit [FloatOps F] in
theorem eachP_chunks (A : Fin 16 → sProp 𝕄) : eachP A chunks = bigSep Finset.univ A := by
  rw [eachP_eq A chunks (by decide)]; rfl

/-- A program run for each number of a list: a state that depends on the numbers left, and for each
    number what its run takes and leaves. -/
theorem runs_each {c : Dev nD} {f : Fin 16 → PR F} {S : List (Fin 16) → sProp 𝕄} {A B : Fin 16 → sProp 𝕄}
    (h : ∀ r l, Runs c iprop(S (r :: l) ∗ A r) (f r) iprop(S l ∗ B r)) :
    (l : List (Fin 16)) → Runs c iprop(S l ∗ eachP A l) (each f l) iprop(S [] ∗ eachP B l)
  | [] => by
    unfold Runs each eachP; rw [wp_ret]
    iintro H; imodintro; iexact H
  | r :: l => by
    unfold each eachP
    refine runs_bind (runs_weaken (runs_frame (R := eachP A l) (h r l)) ?_ (BI.Entails.refl _))
      (runs_weaken (runs_frame (R := B r) (runs_each h l)) ?_ ?_)
    · iintro ⟨H1, H2, H3⟩
      isplitl [H1 H2]
      · isplitl [H1] <;> iassumption
      iexact H3
    · iintro ⟨⟨H1, H2⟩, H3⟩
      isplitl [H1 H3]
      · isplitl [H1] <;> iassumption
      iexact H2
    · iintro ⟨⟨H1, H2⟩, H3⟩
      isplitl [H1]; · iexact H1
      isplitl [H3] <;> iassumption

/-! ## What every device knows -/

/-- The semaphores of the protocol: the barrier's and the transfers'. -/
abbrev csem (k : Fin 68) : SemLoc sig := if k = 0 then .reg barS else .dma (k : DmaSem sig)
abbrev kcell (ck : Dev nD × Fin 68) : GSem nD τ sig := ((ck.1 : Thread nD τ), csem ck.2)

/-- The invariants of all cells, that each has begun its round, the order of the waits. -/
def records (K : Dev nD × Fin 68 → ℕ) : sProp 𝕄 :=
  iprop((bigSep Finset.univ fun ck : Dev nD × Fin 68 => cellInv ER (Rd m) (K ck) (kcell ck))
    ∗ (bigSep Finset.univ fun ck : Dev nD × Fin 68 => reached ER (kcell ck) 0) ∗ levAts L lv)

instance records_persistent (K : Dev nD × Fin 68 → ℕ) : BI.Persistent (records m K) := by unfold records; infer_instance

variable (K : Dev nD × Fin 68 → ℕ)

theorem inv_at (ck : Dev nD × Fin 68) : records m K ⊢ cellInv ER (Rd m) (K ck) (kcell ck) :=
  sep_elim_left.trans (bigSep_elim (Φ := fun ck => cellInv ER (Rd m) (K ck) (kcell ck)) (Finset.mem_univ ck))
theorem reached_at (ck : Dev nD × Fin 68) : records m K ⊢ reached ER (kcell ck) 0 :=
  sep_elim_right.trans (sep_elim_left.trans (bigSep_elim (Φ := fun ck => reached ER (kcell ck) 0) (Finset.mem_univ ck)))
theorem inv_bar (c : Dev nD) : records m K ⊢ cellInv ER (Rd m) (K (c, 0)) (barCell c) := inv_at m K (c, 0)
theorem reached_bar (c : Dev nD) : records m K ⊢ reached ER (barCell c) 0 := reached_at m K (c, 0)
theorem kcell_dma (c : Dev nD) (q : DmaSem sig) (hq : (q : Fin 68).val ≠ 0) : kcell (c, (q : Fin 68)) = dmaCell c q :=
  congrArg (Prod.mk _) (if_neg fun h => hq (congrArg Fin.val h))
theorem inv_dma (c : Dev nD) (q : DmaSem sig) (hq : (q : Fin 68).val ≠ 0) : records m K ⊢ cellInv ER (Rd m) (K (c, (q : Fin 68))) (dmaCell c q) := by
  rw [← kcell_dma c q hq]; exact inv_at m K (c, (q : Fin 68))
theorem reached_dma (c : Dev nD) (q : DmaSem sig) (hq : (q : Fin 68).val ≠ 0) : records m K ⊢ reached ER (dmaCell c q) 0 := by
  rw [← kcell_dma c q hq]; exact reached_at m K (c, (q : Fin 68))
theorem levs : records m K ⊢ levAts L lv := by unfold records; iintro ⟨-, -, #H⟩; iexact H

/-- A device's standing state: what all know, and what it owes. -/
def st (c : Dev nD) (O : CellTallies nD τ sig Unit) : sProp 𝕄 :=
  iprop(records m K ∗ ∃ W, owes (c : Thread nD τ) O W)

/-! ## The operations -/

/-- A wait for a transfer: the cell is closed, its counter at zero, and hands over what it carries. -/
theorem runs_wait (c : Dev nD) (q : DmaSem sig) (hq : (q : Fin 68).val ≠ 0) {sp sp' : Space} {s s' : Shape} {e e' : EltTy}
    (src : Memref sig .tc sp s e) (dst : Memref sig .tc sp' s' e') {h h'} (hN : dst.view.dmaCredit = amt (q : Fin 68).val)
    (O : CellTallies nD τ sig Unit) (hO : (levAts L lv : sProp 𝕄) ⊢ MayWait (c : Thread nD τ) (.dma q) () O) :
    Runs c iprop(st m K c O ∗ atPos ER (dmaCell c q) 0 ∅ 0 ∗ cred (tallyAt (dmaCell c q) () (amt (q : Fin 68).val)))
      (Prog.lift (.waitDma2 q src dst h h'))
      iprop(st m K c O ∗ semVal (dmaCell c q) 0 ∗ dmaPay m c (q : Fin 68).val) := by
  unfold Runs st Prog.lift
  iintro ⟨⟨#Hr, ⟨%W, HO⟩⟩, Hat, Hc⟩
  iapply (Rounds.wp_wait_rest_token 𝒱₀ ER (Rd m) (c : Thread nD τ) none (κ := K (c, (q : Fin 68)))
      (wpE_waitDma2_eq 𝒱₀ (c : Thread nD τ) none Set.univ) (Set.mem_univ _) () (O := O) (W := W) (R := 0) (m := 0) (T := ∅)
      (by rw [Nat.zero_add, expect_dma m c q hq, hN])) $$ [Hc HO Hat]
  · isplitr; · iapply (inv_dma m K c q hq); iexact Hr
    isplitl [Hc]; · rw [hN]; iexact Hc
    isplitl [HO]; · iexact HO
    isplitr; · iapply hO; iapply (levs m K); iexact Hr
    iexact Hat
  iintro ⟨HO, Hat, -, Hpay⟩
  ihave Hp := (Entails.of_eq (rest_dma m c q hq)) $$ Hpay
  imod (Rounds.cell_close ER (Rd m) (Set.mem_univ (K (c, (q : Fin 68)))) (fun h => h) (R := 0 + 1) (duties_later m (dmaCell c q))) $$ [Hat] with Hz
  · isplitr; · iapply (inv_dma m K c q hq); iexact Hr
    iexact Hat
  rw [wp_ret]; imodintro
  isplitl [HO]
  · isplitr; · iexact Hr
    iexists _; iexact HO
  isplitl [Hz] <;> iassumption

/-- A transfer of a chunk of rows to a neighbour: the rows go with the departure's semaphore, the
    neighbour's rows, filled, with the arrival's. -/
theorem runs_send (c c' n : Dev nD) (hn : n = c') (qs qr : DmaSem sig) (hs : (qs : Fin 68).val ≠ 0) (hr : (qr : Fin 68).val ≠ 0)
    (hNs : amt (qs : Fin 68).val = N) (hNr : amt (qr : Fin 68).val = N)
    (v : Memref sig .tc .vmem S32x512 .bf16) {off : Fin 2 → ℕ} {inb} {hst} (a : ℕ) (ho : off = ![a, 0])
    (hv : v = (outM.slice (Rect.unit (s := S2048x512) off S32x512.size inb) hst : Memref sig .tc .vmem S32x512 .bf16))
    (hps : dmaPay (F := F) m c (qs : Fin 68).val = outR c a 32 (outAt m c)) (hpr : dmaPay (F := F) m c' (qr : Fin 68).val = outR c' a 32 (outAt m c'))
    (hag : ∀ i : S2048x512.Idx, a ≤ (i 0).val → (i 0).val < a + 32 → outAt m c' i = outAt m c i)
    {hsc} {hsrc} {hdst} {hsem} (O : CellTallies nD τ sig Unit) :
    Runs c iprop(st m K c (O + tallyAt (dmaCell c' qr) () N) ∗ outR c a 32 (outAt m c) ∗ (∃ f, outR c' a 32 f)
        ∗ dutyTok ER (dmaCell c qs) 0 false ∗ dutyTok ER (dmaCell c' qr) 0 false)
      (Prog.lift (.enqueueDma v (.remote (Dev.tc n) v (.dma qs) hsc) (.dma qr) hsrc hdst hsem))
      iprop(st m K c O ∗ cred (tallyAt (dmaCell c qs) () N)) := by
  subst hn hv
  have hset : (outM.slice (Rect.unit (s := S2048x512) off S32x512.size inb) hst : Memref sig .tc .vmem S32x512 .bf16).view.set = rows a 32 :=
    (View.set_slice_whole _ _).trans (rect_rows off S32x512.size inb a 32 ho rfl)
  have h₁ : outR (F := F) c a 32 (outAt m c) ⊢ (Rd m).payload (dmaCell c qs) 0 false := Entails.of_eq hps.symm
  have h₂ (f : S2048x512.Idx → F .bf16) : outR (F := F) n a 32
      ((outM.slice (Rect.unit (s := S2048x512) off S32x512.size inb) hst : Memref sig .tc .vmem S32x512 .bf16).view.write (Elt F) f
        ((outM.slice (Rect.unit (s := S2048x512) off S32x512.size inb) hst : Memref sig .tc .vmem S32x512 .bf16).view.read (Elt F) (outAt m c)) Finset.univ)
      ⊢ (Rd m).payload (dmaCell n qr) 0 false := by
    refine Entails.of_eq (Eq.trans ?_ hpr.symm)
    unfold outR
    refine pointsTo_congr fun i hi => ?_
    refine (write_read_same (outM.slice (Rect.unit (s := S2048x512) off S32x512.size inb) hst : Memref sig .tc .vmem S32x512 .bf16).view f (outAt m c) i (by rw [hset]; exact hi)).trans ?_
    exact (hag i (mem_rows.mp hi).1 (mem_rows.mp hi).2).symm
  unfold outR at h₁ h₂
  unfold Runs st Prog.lift
  iintro ⟨⟨#Hr, ⟨%W, HO⟩⟩, Hsrc, ⟨%f, Hdst⟩, Hts, Htr⟩
  unfold outR
  iapply (Rounds.wp_send_pointsTo 𝒱₀ ER (Rd m) (c : Thread nD τ) none (κ₁ := K (c, (qs : Fin 68))) (κ₂ := K (n, (qr : Fin 68)))
    (src := (outM.slice (Rect.unit (s := S2048x512) off S32x512.size inb) hst : Memref sig .tc .vmem S32x512 .bf16))
    (dst := (outM.slice (Rect.unit (s := S2048x512) off S32x512.size inb) hst : Memref sig .tc .vmem S32x512 .bf16))
    (c' := (Dev.tc n : Thread nD τ)) (sS := .dma qs) (sem := .dma qr)
    (hsc := hsc) (hsrc := hsrc) (hdst := hdst) (hsem := hsem)
    (r₁ := 0) (r₂ := 0) (d₁ := false) (d₂ := false) (fd := f) (fs := outAt m c) (q := fullShare) (W := W)
    (by rw [duties_dma m c qs hs]; exact Finset.mem_singleton_self _) (by rw [duties_dma m n qr hr]; exact Finset.mem_singleton_self _)
    () () N rfl hNs hNr O rfl
    (by rw [hset]; exact h₁) (by rw [hset]; exact h₂ f)) $$ [HO Hsrc Hdst Hts Htr]
  · isplitr; · iapply (inv_dma m K c qs hs); iexact Hr
    isplitr; · iapply (inv_dma m K n qr hr); iexact Hr
    isplitl [Hsrc]; · rw [hset]; iexact Hsrc
    isplitl [Hdst]; · rw [hset]; iexact Hdst
    isplitl [HO]; · iexact HO
    isplitl [Hts]; · iexact Hts
    isplitr; · iapply (reached_dma m K c qs hs); iexact Hr
    isplitl [Htr]; · iexact Htr
    iapply (reached_dma m K n qr hr); iexact Hr
  iintro ⟨Hc, HO⟩
  rw [wp_ret]; imodintro
  isplitl [HO]
  · isplitr; · iexact Hr
    iexists _; iexact HO
  iexact Hc

/-- A copy of rows of the argument into the core's memory, started. -/
theorem runs_copy (c : Dev nD) (k : Fin 3) {off size : Fin 2 → ℕ} {inb} (a n : ℕ) (ho : off = ![a, 0]) (hs : size = ![n, 512])
    (ha : in0 c (1 + k.val) = a) (hn : inN (1 + k.val) = n) {hst hst'}
    (hN : (xvM.slice (Rect.unit (s := S1024x512) off size inb) hst').view.dmaCredit = amt (1 + k.val))
    {hsrc} {hdst} {hsem} (O : CellTallies nD τ sig Unit) :
    Runs c iprop(st m K c O ∗ argR c a n (arg m c) ∗ (∃ f, xvR c a n f) ∗ dutyTok ER (dmaCell c (inSem k)) 0 false)
      (Prog.lift (.enqueueDma (argM.slice (Rect.unit (s := S1024x512) off size inb) hst)
        (.here (xvM.slice (Rect.unit (s := S1024x512) off size inb) hst')) (.dma (inSem k)) hsrc hdst hsem))
      iprop(st m K c O ∗ cred (tallyAt (dmaCell c (inSem k)) () (amt (inSem k : Fin 68).val))) := by
  have hset : (argM.slice (Rect.unit (s := S1024x512) off size inb) hst).view.set = rows a n :=
    (View.set_slice_whole _ _).trans (rect_rows off size inb a n ho hs)
  have hset' : (xvM.slice (Rect.unit (s := S1024x512) off size inb) hst').view.set = rows a n :=
    (View.set_slice_whole _ _).trans (rect_rows off size inb a n ho hs)
  unfold Runs st Prog.lift
  iintro ⟨⟨#Hr, ⟨%W, HO⟩⟩, Hsrc, ⟨%f, Hdst⟩, Ht⟩
  unfold argR xvR
  iapply (Rounds.wp_copy_pointsTo 𝒱₀ ER (Rd m) (c : Thread nD τ) none (κ := K (c, (inSem k : Fin 68)))
    (src := argM.slice (Rect.unit (s := S1024x512) off size inb) hst)
    (r := 0) (d := false) (fd := f) (fs := arg m c) (q := fullShare)
    (by rw [duties_dma m c _ (inSem_ne k)]; exact Finset.mem_singleton_self _)
    () (amt (inSem k : Fin 68).val) (by rw [inSem_val]; exact hN) rfl
    (by
      show _ ⊢ dmaPay m c (inSem k : Fin 68).val
      rw [pay_in, ha, hn]; unfold xvR argR
      refine BIClass.sep_mono (Entails.of_eq ?_) (Entails.of_eq ?_)
      · refine (pointsTo_congr fun i hi => staged f (arg m c) i hi).trans ?_
        rw [hset']
      · rw [hset])) $$ [Hsrc Hdst Ht]
  · isplitr; · iapply (inv_dma m K c _ (inSem_ne k)); iexact Hr
    isplitl [Hsrc]; · rw [hset]; iexact Hsrc
    isplitl [Hdst]; · rw [hset']; iexact Hdst
    isplitl [Ht]; · iexact Ht
    iapply (reached_dma m K c _ (inSem_ne k)); iexact Hr
  iintro Hc
  rw [wp_ret]; imodintro
  isplitl [HO]
  · isplitr; · iexact Hr
    iexists _; iexact HO
  iexact Hc

/-- Rows of the staged argument loaded, converted and stored among the result's own rows. -/
theorem runs_convert (c : Dev nD) {off off' size : Fin 2 → ℕ} {inb} {inb'} (a b n : ℕ) (ho : off = ![a, 0]) (ho' : off' = ![b, 0]) (hs : size = ![n, 512])
    (hrow : ∀ k, k < n → (b + k) % 1024 = a + k ∧ from_ c (b + k) = c) {hl} {hl'} {hst} {hm} :
    Runs c iprop(xvR c a n (arg m c) ∗ ∃ f, outR c b n f)
      ((Prog.lift (.load xvM (Rect.unit (s := S1024x512) off size inb).toLoadRect hl) : Prog (TpuEff nD τ sig (Elt F) Λ₀ .tc) (Vec F (Rect.unit (s := S1024x512) off size inb).shape .f32)) >>= fun v =>
        (Prog.lift (.load outM (Rect.unit (s := S2048x512) off' size inb').toLoadRect hl') : Prog (TpuEff nD τ sig (Elt F) Λ₀ .tc) (Vec F (Rect.unit (s := S2048x512) off' size inb').shape .bf16)) >>= fun _ =>
        Prog.lift (.store outM (Rect.unit (s := S2048x512) off' size inb') (truncf .bf16 v bitsLt_bf16_f32 : FVec F (Rect.unit (s := S1024x512) off size inb).shape .bf16) Finset.univ hst hm))
      iprop(xvR c a n (arg m c) ∗ outR c b n (outAt m c)) := by
  have hset : ((outM.access (Rect.unit (s := S2048x512) off' size inb')) : View sig .tc _ _ _).set = rows b n :=
    (View.set_slice_whole _ _).trans (rect_rows off' size inb' b n ho' hs)
  have hset' : ((xvM.access (Rect.unit (s := S1024x512) off size inb)) : View sig .tc _ _ _).set = rows a n :=
    (View.set_slice_whole _ _).trans (rect_rows off size inb a n ho hs)
  unfold Runs Prog.lift
  simp only [Prog.bind_op, Prog.bind_ret]
  iintro ⟨Hx, ⟨%f, Ho⟩⟩
  unfold xvR outR
  iapply (wp_load_rect 𝒱₀ (c : Thread nD τ) none Set.univ (m := xvM) (r := Rect.unit (s := S1024x512) off size inb) (subset_of_eq hset')) $$ Hx; iintro Hx
  iapply (wp_load_rect 𝒱₀ (c : Thread nD τ) none Set.univ (m := outM) (r := Rect.unit (s := S2048x512) off' size inb') (subset_of_eq hset)) $$ Ho; iintro Ho
  iapply (wp_store 𝒱₀ (c : Thread nD τ) none Set.univ (m := outM) (r := Rect.unit (s := S2048x512) off' size inb') (Mk := Finset.univ) (subset_of_eq hset)) $$ Ho; iintro Ho
  rw [wp_ret]; imodintro
  isplitl [Hx]; · iexact Hx
  ihave Ho' := (Entails.of_eq (pointsTo_congr fun i hi => stored m c a b n ho ho' hs hrow f i (by rw [hset]; exact hi))) $$ Ho
  iexact Ho'

/-- The barrier: a device hands each neighbour the rows it will fill and receives theirs. -/
theorem runs_meet (c : Dev nD) :
    Runs c iprop(st m K c (O₀ c) ∗ (∃ f, outR c (land0 c) 512 f) ∗ (∃ f, outR c (far0 c) 512 f)
        ∗ dutyTok ER (barCell (yn c)) 0 false ∗ dutyTok ER (barCell (xn c)) 0 true
        ∗ atPos ER (barCell c) 0 ∅ 0 ∗ cred (tallyAt (barCell c) () 2))
      (meet c)
      iprop(st m K c (O₂ c) ∗ semVal (barCell c) 0 ∗ (∃ f, outR (yn c) (wire0 c) 512 f) ∗ ∃ f, outR (xn c) (land0 c) 512 f) := by
  have hY : (iprop(∃ f, outR c (land0 c) 512 f) : sProp 𝕄) ⊢ (Rd m).payload (barCell (yn c)) 0 false := by
    show _ ⊢ barPay (F := F) (yn c) false
    unfold barPay; rw [yn_yn, wire_yn]; exact BI.Entails.refl _
  have hX : (iprop(∃ f, outR c (far0 c) 512 f) : sProp 𝕄) ⊢ (Rd m).payload (barCell (xn c)) 0 true := by
    show _ ⊢ barPay (F := F) (xn c) true
    unfold barPay; rw [xn_xn, land_xn]; exact BI.Entails.refl _
  unfold Runs st meet
  simp only [semSignalWord, semWaitWord, Prog.lift, Prog.bind_op, Prog.bind_ret, Prog.pure_eq_ret, dev1_eq c, dev2_eq c]
  iintro ⟨⟨#Hr, ⟨%W, HO⟩⟩, Hland, Hfar, HtY, HtX, Hat, Hc⟩
  iapply (Rounds.wp_signal 𝒱₀ ER (Rd m) (c : Thread nD τ) none (dst := (yn c : Thread nD τ)) (κ := K (yn c, 0))
      (d := false) (by rw [duties_bar]; exact Finset.mem_univ _) ((amount_bar m (yn c) false).trans (by decide)) () (O₁ c) rfl)
    $$ [HO HtY Hland]
  · isplitr; · iapply (inv_bar m K (yn c)); iexact Hr
    isplitl [HO]; · iexact HO
    isplitl [HtY]; · iexact HtY
    isplitl [Hland]
    · iapply hY; iexact Hland
    iapply (reached_bar m K (yn c)); iexact Hr
  iintro HO
  iapply (Rounds.wp_signal 𝒱₀ ER (Rd m) (c : Thread nD τ) none (dst := (xn c : Thread nD τ)) (κ := K (xn c, 0))
      (d := true) (by rw [duties_bar]; exact Finset.mem_univ _) ((amount_bar m (xn c) true).trans (by decide)) () (O₂ c) rfl)
    $$ [HO HtX Hfar]
  · isplitr; · iapply (inv_bar m K (xn c)); iexact Hr
    isplitl [HO]; · iexact HO
    isplitl [HtX]; · iexact HtX
    isplitl [Hfar]
    · iapply hX; iexact Hfar
    iapply (reached_bar m K (xn c)); iexact Hr
  iintro HO
  iapply (Rounds.wp_wait_rest_token 𝒱₀ ER (Rd m) (c : Thread nD τ) none (κ := K (c, 0))
      (wpE_semWait_eq 𝒱₀ (c : Thread nD τ) none Set.univ) (Set.mem_univ _) () (O := O₂ c) (W := W) (R := 0) (m := 0) (T := ∅)
      (by rw [expect_bar]; decide)) $$ [Hc HO Hat]
  · isplitr; · iapply (inv_bar m K c); iexact Hr
    isplitl [Hc]; · iexact Hc
    isplitl [HO]; · iexact HO
    isplitr
    · iapply (mayWait c (.reg barS) 1 (O₂ c) (Nat.le_refl 1) (above_due c 1 (by omega) _ _)); iapply (levs m K); iexact Hr
    iexact Hat
  iintro ⟨HO, Hat, -, Hpay⟩
  ihave Hp := (Entails.of_eq (rest_bar m c)) $$ Hpay
  imod (Rounds.cell_close ER (Rd m) (Set.mem_univ (K (c, 0))) (fun h => h) (R := 0 + 1) (duties_later m (barCell c))) $$ [Hat] with Hz
  · isplitr; · iapply (inv_bar m K c); iexact Hr
    iexact Hat
  rw [wp_ret]; imodintro
  isplitl [HO]
  · isplitr; · iexact Hr
    iexists _; iexact HO
  isplitl [Hz]; · iexact Hz
  iexact Hp

end Cert.KernelIdeal.Gather
-- ==== Proof.Body.lean ====
module

public import proofs.«01_k».proof.Proof.Rules

/-! The kernel's body on a device: its phases in order, from what the launch hands the device to the
gathered result. -/

@[expose] public section

noncomputable section

namespace Cert.KernelIdeal.Gather

open Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Row ranges cut and joined -/

omit [FloatOps F] in
theorem swap_eq (P Q : sProp 𝕄) : iprop(P ∗ Q) = iprop(Q ∗ P) := BI.Entails.antisymm Idealize.SL.BI.sep_comm Idealize.SL.BI.sep_comm
omit [FloatOps F] in
theorem assoc_eq (P Q R : sProp 𝕄) : iprop((P ∗ Q) ∗ R) = iprop(P ∗ Q ∗ R) := BI.Entails.antisymm Idealize.SL.BI.sep_assoc Idealize.SL.BI.sep_assoc'

/-- A family of assertions on row ranges that may be cut anywhere. -/
def RowFam (R : ℕ → ℕ → sProp 𝕄) : Prop :=
  (∀ a n k, R a (n + k) = iprop(R a n ∗ R (a + n) k)) ∧ ∀ a, R a 0 = (iprop(emp) : sProp 𝕄)

omit [FloatOps F] in
/-- Ownership of the rows of a buffer of 512 columns is such a family. -/
theorem rowFam_pointsTo {R : ℕ} (ℓ : Loc nD τ sig) (f : Buf (Elt F) ℓ) (g : (⟨2, ![R, 512]⟩ : Shape).Idx ↪ Idx ℓ) :
    RowFam (F := F) fun a n => (ℓ ↦[(rows a n).map g]{fullShare} f) := by
  refine ⟨fun a n k => ?_, fun a => ?_⟩
  · beta_reduce
    rw [rows_add, Finset.map_union]
    have h := pointsTo_union (nD := nD) (τ := τ) (sig := sig) (Ix := Unit) (Val := Elt F) (Name := ℕ) (U := UU) (Lvl := ℕ) (ℓ := ℓ) (q := fullShare) (f := f) ((Finset.disjoint_map g).mpr (rows_disjoint a n (a + n) k (Or.inl le_rfl)))
    exact BI.Entails.antisymm h.1 h.2
  · beta_reduce
    rw [rows_zero, Finset.map_empty, pointsTo_empty]

omit [FloatOps F] in
theorem rowFam_out (c : Dev nD) (f : S2048x512.Idx → F .bf16) : RowFam (fun a n => outR (F := F) c a n f) := by
  have h := rowFam_pointsTo (F := F) (R := 2048) ((c : Thread nD τ).loc cc0_stg0_0) f (.refl _)
  simp only [Finset.map_refl] at h; exact h
omit [FloatOps F] in
theorem rowFam_xv (c : Dev nD) (f : S1024x512.Idx → F .f32) : RowFam (fun a n => xvR (F := F) c a n f) := by
  have h := rowFam_pointsTo (F := F) (R := 1024) ((c : Thread nD τ).loc cc0_scratch0) f (.refl _)
  simp only [Finset.map_refl] at h; exact h
omit [FloatOps F] in
theorem rowFam_arg (c : Dev nD) (f : S1024x512.Idx → F .f32) : RowFam (fun a n => argR (F := F) c a n f) := by
  have h := rowFam_pointsTo (F := F) (R := 1024) ((c : Thread nD τ).loc main_arg0) f (.refl _)
  simp only [Finset.map_refl] at h; exact h

omit [FloatOps F] in
/-- Consecutive chunks of 32 rows. -/
theorem rows_each {R : ℕ → ℕ → sProp 𝕄} (h : RowFam R) (a : ℕ) : (l : List (Fin 16)) → (k n : ℕ) → l.map Fin.val = List.range' k n →
    R (a + 32 * k) (32 * n) = eachP (fun r => R (a + 32 * r.val) 32) l
  | [], k, n, hl => by
    have : n = 0 := by have := congrArg List.length hl; rw [List.length_range'] at this; exact this.symm
    subst this; exact h.2 _
  | r :: l, k, 0, hl => by cases hl
  | r :: l, k, n + 1, hl => by
    rw [List.range'_succ, List.map_cons, List.cons.injEq] at hl
    rw [show 32 * (n + 1) = 32 + 32 * n by omega, h.1, show a + 32 * k + 32 = a + 32 * (k + 1) by omega, rows_each h a l (k + 1) n hl.2, ← hl.1]
    rfl

omit [FloatOps F] in
theorem rows_chunks {R : ℕ → ℕ → sProp 𝕄} (h : RowFam R) (a : ℕ) : R a 512 = eachP (fun r => R (a + 32 * r.val) 32) chunks :=
  rows_each h a chunks 0 16 (by decide)
omit [FloatOps F] in
theorem rows_rest {R : ℕ → ℕ → sProp 𝕄} (h : RowFam R) (a : ℕ) : R (a + 32) 480 = eachP (fun r => R (a + 32 * r.val) 32) chunksRest :=
  rows_each h a chunksRest 1 15 (by decide)

omit [FloatOps F] in
/-- The argument's rows: the first chunk to send, the others to send, the rest. -/
theorem rows_three {R : ℕ → ℕ → sProp 𝕄} (h : RowFam R) (c : Dev nD) :
    R 0 1024 = iprop(R (src0 c) 32 ∗ R (src0 c + 32) 480 ∗ R (oth0 c) 512) := by
  have h1 : R 0 1024 = iprop(R 0 512 ∗ R 512 512) := by rw [show 1024 = 512 + 512 from rfl, h.1, Nat.zero_add]
  have h2 (a : ℕ) : iprop(R a 32 ∗ R (a + 32) 480) = R a 512 := by rw [show 512 = 32 + 480 from rfl, h.1]
  rw [← assoc_eq, h2, h1]; unfold src0 oth0
  have hc : c.val < 4 := c.isLt
  rcases (show c.val / 2 = 0 ∨ c.val / 2 = 1 by omega) with h | h <;> rw [h]
  exact swap_eq _ _

omit [FloatOps F] in
/-- The result's rows: those sent along `y`, the device's other own, those landed along `y`, along `x`. -/
theorem rows_four {R : ℕ → ℕ → sProp 𝕄} (h : RowFam R) (c : Dev nD) :
    R 0 2048 = iprop((R (wire0 c) 512 ∗ R (keep0 c) 512) ∗ (R (land0 c) 512 ∗ R (far0 c) 512)) := by
  have h0 : R 0 2048 = iprop(R 0 1024 ∗ R 1024 1024) := by rw [show 2048 = 1024 + 1024 from rfl, h.1, Nat.zero_add]
  have h1 (a : ℕ) : R a 1024 = iprop(R a 512 ∗ R (a + 512) 512) := by rw [show 1024 = 512 + 512 from rfl, h.1]
  have h2 (b : ℕ) : R b 1024 = iprop(R (b + 512 * (c.val / 2)) 512 ∗ R (b + 512 * (1 - c.val / 2)) 512) := by
    rw [h1]
    have hc : c.val < 4 := c.isLt
    rcases (show c.val / 2 = 0 ∨ c.val / 2 = 1 by omega) with h | h <;> rw [h]
    · rfl
    · exact swap_eq _ _
  unfold wire0 keep0 land0 far0
  rw [← h2, ← h2, h0]
  rcases (show c.val % 2 = 0 ∨ c.val % 2 = 1 by omega) with h | h <;> rw [h]
  exact swap_eq _ _

/-! ## One program after another -/

theorem runs_then {c : Dev nD} {P Q : sProp 𝕄} {p q : PR F} (h : Runs c P p Q) (Φ : PUnit → sProp 𝕄) :
    P ⊢ iprop((Q -∗ wp frame (wpE (defs₀ (F := F)) 𝒱₀ (c : Thread nD τ) none) Set.univ q Φ)
      -∗ wp frame (wpE (defs₀ (F := F)) 𝒱₀ (c : Thread nD τ) none) Set.univ (p >>= fun _ => q) Φ) := by
  refine Laws.wand_intro ?_
  rw [wp_bind]
  refine ((sep_mono_left h).trans (wp_frame_r _ _ _)).trans (wp_mono _ _ _ fun _ => ?_)
  iintro ⟨H, Hw⟩
  iapply Hw; iexact H

theorem runs_last {c : Dev nD} {P Q : sProp 𝕄} {p : PR F} (h : Runs c P p Q) (Φ : PUnit → sProp 𝕄) :
    P ⊢ iprop((Q -∗ Φ ⟨⟩) -∗ wp frame (wpE (defs₀ (F := F)) 𝒱₀ (c : Thread nD τ) none) Set.univ p Φ) := by
  refine Laws.wand_intro ?_
  refine ((sep_mono_left h).trans (wp_frame_r _ _ _)).trans (wp_mono _ _ _ fun _ => ?_)
  iintro ⟨H, Hw⟩
  iapply Hw; iexact H

/-! ## The phases -/

variable (K : Dev nD × Fin 68 → ℕ) (c : Dev nD)

theorem in0_0 : in0 c (1 + (0 : Fin 3).val) = src0 c := if_pos rfl
theorem in0_1 : in0 c (1 + (1 : Fin 3).val) = src0 c + 32 := (if_neg (by decide)).trans (if_pos rfl)
theorem in0_2 : in0 c (1 + (2 : Fin 3).val) = oth0 c := (if_neg (by decide)).trans (if_neg (by decide))
theorem inN_0 : inN (1 + (0 : Fin 3).val) = 32 := if_pos rfl
theorem inN_1 : inN (1 + (1 : Fin 3).val) = 480 := (if_neg (by decide)).trans (if_pos rfl)
theorem inN_2 : inN (1 + (2 : Fin 3).val) = 512 := (if_neg (by decide)).trans (if_neg (by decide))
theorem credit_0 : (xvA c).view.dmaCredit = amt (1 + (0 : Fin 3).val) := by unfold amt; rw [if_pos (by decide)]
theorem credit_1 : (xvB c).view.dmaCredit = amt (1 + (1 : Fin 3).val) := by unfold amt; rw [if_neg (by decide), if_pos (by decide)]
theorem credit_2 : (xvC c).view.dmaCredit = amt (1 + (2 : Fin 3).val) := by
  unfold amt; rw [if_neg (by decide), if_neg (by decide), if_pos (by decide)]

theorem amt_in (k : Fin 3) : amt (inSem k : Fin 68).val = amt (1 + k.val) := by rw [inSem_val]

/-- The copies started: each takes the rows it reads and fills, and leaves its credit. -/
theorem runs_fill (O : CellTallies nD τ sig Unit) :
    Runs c iprop(st m K c O ∗ argR c 0 1024 (arg m c) ∗ (∃ f, xvR c 0 1024 f)
        ∗ dutyTok ER (dmaCell c (inSem 0)) 0 false ∗ dutyTok ER (dmaCell c (inSem 1)) 0 false ∗ dutyTok ER (dmaCell c (inSem 2)) 0 false)
      (fill c)
      iprop(st m K c O ∗ cred (tallyAt (dmaCell c (inSem 0)) () (amt (inSem 0 : Fin 68).val))
        ∗ cred (tallyAt (dmaCell c (inSem 1)) () (amt (inSem 1 : Fin 68).val)) ∗ cred (tallyAt (dmaCell c (inSem 2)) () (amt (inSem 2 : Fin 68).val))) := by
  have ho : (512 - 512 * (c.val / 2)) = oth0 c := by unfold oth0; omega
  unfold Runs fill
  iintro ⟨Hs, Ha, ⟨%f, Hx⟩, T0, T1, T2⟩
  ihave Ha' := (Entails.of_eq (rows_three (rowFam_arg c (arg m c)) c)) $$ Ha
  icases Ha' with ⟨A0, A1, A2⟩
  ihave Hx' := (Entails.of_eq (rows_three (rowFam_xv c f) c)) $$ Hx
  icases Hx' with ⟨X0, X1, X2⟩
  iapply (runs_then (runs_copy m K c 0 (off := k0_off1 c) (size := S32x512.size) (inb := k0_off1_inb c) (src0 c) 32 (k0_off1_eq c) rfl (in0_0 c) inN_0 (credit_0 c) O)) $$ [Hs A0 X0 T0]
  · isplitl [Hs]; · iexact Hs
    isplitl [A0]; · iexact A0
    isplitl [X0]; · iexists f; iexact X0
    iexact T0
  iintro ⟨Hs, C0⟩
  iapply (runs_then (runs_copy m K c 1 (off := k0_off2 c) (size := S480x512.size) (inb := k0_off2_inb c) (src0 c + 32) 480 (k0_off2_eq c) rfl (in0_1 c) inN_1 (credit_1 c) O)) $$ [Hs A1 X1 T1]
  · isplitl [Hs]; · iexact Hs
    isplitl [A1]; · iexact A1
    isplitl [X1]; · iexists f; iexact X1
    iexact T1
  iintro ⟨Hs, C1⟩
  iapply (runs_last (runs_copy m K c 2 (off := k0_off3 c) (size := S512x512.size) (inb := k0_off3_inb c) (oth0 c) 512 ((k0_off3_eq c).trans (by rw [ho])) rfl (in0_2 c) inN_2 (credit_2 c) O)) $$ [Hs A2 X2 T2]
  · isplitl [Hs]; · iexact Hs
    isplitl [A2]; · iexact A2
    isplitl [X2]; · iexists f; iexact X2
    iexact T2
  iintro ⟨Hs, C2⟩
  isplitl [Hs]; · iexact Hs
  isplitl [C0]; · iexact C0
  isplitl [C1] <;> iassumption

/-- What sending chunk `r` along `y` takes. -/
abbrev takesY (r : Fin 16) : sProp 𝕄 :=
  iprop(xvR c (src0 c + 32 * r.val) 32 (arg m c) ∗ (∃ f, outR c (wire0 c + 32 * r.val) 32 f) ∗ (∃ f, outR (yn c) (wire0 c + 32 * r.val) 32 f)
    ∗ dutyTok ER (dmaCell c (sY r)) 0 false ∗ dutyTok ER (dmaCell (yn c) (rY r)) 0 false)
/-- What it leaves. -/
abbrev leavesY (r : Fin 16) : sProp 𝕄 :=
  iprop(xvR c (src0 c + 32 * r.val) 32 (arg m c) ∗ cred (tallyAt (dmaCell c (sY r)) () N))

/-- A chunk of a device's rows of the result comes from the same rows of its argument. -/
theorem row_wire (r : Fin 16) (k : ℕ) (hk : k < 32) :
    (wire0 c + 32 * r.val + k) % 1024 = src0 c + 32 * r.val + k ∧ from_ c (wire0 c + 32 * r.val + k) = c := by
  have hc : c.val < 4 := c.isLt
  have hr := r.isLt
  unfold wire0 src0
  exact ⟨by omega, from_self c _ (by omega)⟩
theorem row_keep (k : ℕ) (hk : k < 512) : (keep0 c + k) % 1024 = oth0 c + k ∧ from_ c (keep0 c + k) = c := by
  have hc : c.val < 4 := c.isLt
  unfold keep0 oth0
  exact ⟨by omega, from_self c _ (by omega)⟩

theorem runs_sendY (D : CellTallies nD τ sig Unit) (r : Fin 16) (l : List (Fin 16)) :
    Runs c iprop(st m K c (D + dueY c (r :: l)) ∗ takesY m c r) (sendY c r) iprop(st m K c (D + dueY c l) ∗ leavesY m c r) := by
  unfold Runs sendY takesY leavesY
  iintro ⟨Hs, Hx, Ho, Hn, Ts, Tr⟩
  iapply (runs_then (runs_convert m c (src0 c + 32 * r.val) (wire0 c + 32 * r.val) 32 (k0_off4_eq c r) (k0_off5_eq c r) rfl (row_wire c r))) $$ [Hx Ho]
  · isplitl [Hx] <;> iassumption
  iintro ⟨Hx, Ho⟩
  iapply (runs_last (runs_send m K c (yn c) _ (dev3_eq c) (sY r) (rY r) (sY_ne r) (rY_ne r) (amt_sY r) (amt_rY r) (wireM c r)
      (wire0 c + 32 * r.val) (k0_off6_eq c r) rfl (pay_sY m c r) ((pay_rY m (yn c) r).trans (by rw [land_yn]))
      (fun i h1 h2 => outAt_yn m c i (by omega) (by have := r.isLt; omega)) (D + dueY c l))) $$ [Hs Ho Hn Ts Tr]
  · isplitl [Hs]
    · rw [add_assoc]; iexact Hs
    isplitl [Ho]; · iexact Ho
    isplitl [Hn]; · iexact Hn
    isplitl [Ts] <;> iassumption
  iintro ⟨Hs, Hc⟩
  isplitl [Hs]; · iexact Hs
  isplitl [Hx] <;> iassumption

/-- What forwarding chunk `r` along `x` takes. -/
abbrev takesX (r : Fin 16) : sProp 𝕄 :=
  iprop(atPos ER (dmaCell c (rY r)) 0 ∅ 0 ∗ cred (tallyAt (dmaCell c (rY r)) () N) ∗ (∃ f, outR (xn c) (land0 c + 32 * r.val) 32 f)
    ∗ dutyTok ER (dmaCell c (sX r)) 0 false ∗ dutyTok ER (dmaCell (xn c) (rX r)) 0 false)
/-- What it leaves. -/
abbrev leavesX (r : Fin 16) : sProp 𝕄 :=
  iprop(semVal (dmaCell c (rY r)) 0 ∗ cred (tallyAt (dmaCell c (sX r)) () N))

theorem land_off (r : Fin 16) : k0_off9 c (dist r) = ![land0 c + 32 * r.val, 0] := by
  rw [k0_off9_eq c r]
  have hc : c.val < 4 := c.isLt
  have hr := r.isLt
  exact congrArg (fun a => ![a, 0]) (by unfold land0; omega)

theorem runs_sendX (r : Fin 16) (l : List (Fin 16)) :
    Runs c iprop(st m K c (dueX c (r :: l)) ∗ takesX (F := F) c r) (sendX c r) iprop(st m K c (dueX c l) ∗ leavesX (F := F) c r) := by
  unfold Runs sendX takesX leavesX
  iintro ⟨Hs, Hat, Hc, Hn, Ts, Tr⟩
  iapply (runs_then (runs_wait m K c (rY r) (rY_ne r) (wireM c r) (wireM c r) (amt_rY r).symm (dueX c (r :: l))
      (mayWait c _ 2 _ (by rw [lv_rY]) (above_dueX c 2 (by omega) _)))) $$ [Hs Hat Hc]
  · isplitl [Hs]; · iexact Hs
    isplitl [Hat]; · iexact Hat
    rw [amt_rY]; iexact Hc
  iintro ⟨Hs, Hz, Ho⟩
  iapply (runs_last (runs_send m K c (xn c) _ (dev19_eq c) (sX r) (rX r) (sX_ne r) (rX_ne r) (amt_sX r) (amt_rX r) (landM c r)
      (land0 c + 32 * r.val) (land_off c r) rfl (pay_sX m c r) ((pay_rX m (xn c) r).trans (by rw [far_xn]))
      (fun i h1 h2 => outAt_xn m c i (by omega) (by have := r.isLt; omega)) (dueX c l))) $$ [Hs Ho Hn Ts Tr]
  · isplitl [Hs]; · iexact Hs
    isplitl [Ho]; · rw [← pay_rY]; iexact Ho
    isplitl [Hn]; · iexact Hn
    isplitl [Ts] <;> iassumption
  iintro ⟨Hs, Hc⟩
  isplitl [Hs]; · iexact Hs
  isplitl [Hz] <;> iassumption

/-- A wait when nothing is owed. -/
theorem free_wait (q : DmaSem sig) : (levAts L lv : sProp 𝕄) ⊢ MayWait (c : Thread nD τ) (.dma q) () 0 := by
  rw [MayWait_zero]; iintro -; iempintro

/-- Chunk `r` of the rows that land along `x`. -/
theorem runs_arrive (r : Fin 16) :
    Runs c iprop(st m K c 0 ∗ (atPos ER (dmaCell c (rX r)) 0 ∅ 0 ∗ cred (tallyAt (dmaCell c (rX r)) () N))) (waitL cc0_scratch5 c r)
      iprop(st m K c 0 ∗ (semVal (dmaCell c (rX r)) 0 ∗ outR c (far0 c + 32 * r.val) 32 (outAt m c))) := by
  have h := runs_wait m K c (rX r) (rX_ne r) (landM c r) (landM c r)
    (h := outW.wordExact_slice rfl _ (k0_off9_wordsbf16 c r)) (h' := outW.wordExact_slice rfl _ (k0_off9_wordsbf16 c r)) (amt_rX r).symm 0 (free_wait c _)
  rw [amt_rX, pay_rX] at h; exact h

/-- Chunk `r`'s two departures. -/
theorem runs_depart (r : Fin 16) :
    Runs c iprop(st m K c 0 ∗ (atPos ER (dmaCell c (sY r)) 0 ∅ 0 ∗ cred (tallyAt (dmaCell c (sY r)) () N)
          ∗ atPos ER (dmaCell c (sX r)) 0 ∅ 0 ∗ cred (tallyAt (dmaCell c (sX r)) () N)))
      (waitW cc0_scratch2 c r >>= fun _ => waitL cc0_scratch4 c r)
      iprop(st m K c 0 ∗ (semVal (dmaCell c (sY r)) 0 ∗ outR c (wire0 c + 32 * r.val) 32 (outAt m c)
          ∗ semVal (dmaCell c (sX r)) 0 ∗ outR c (land0 c + 32 * r.val) 32 (outAt m c))) := by
  have hy := runs_wait m K c (sY r) (sY_ne r) (wireM c r) (wireM c r)
    (h := outW.wordExact_slice rfl _ (k0_off6_wordsbf16 c r)) (h' := outW.wordExact_slice rfl _ (k0_off6_wordsbf16 c r)) (amt_sY r).symm 0 (free_wait c _)
  rw [amt_sY, pay_sY] at hy
  have hx := runs_wait m K c (sX r) (sX_ne r) (landM c r) (landM c r)
    (h := outW.wordExact_slice rfl _ (k0_off9_wordsbf16 c r)) (h' := outW.wordExact_slice rfl _ (k0_off9_wordsbf16 c r)) (amt_sX r).symm 0 (free_wait c _)
  rw [amt_sX, pay_sX] at hx
  unfold Runs
  iintro ⟨Hs, A1, C1, A2, C2⟩
  iapply (runs_then hy) $$ [Hs A1 C1]
  · isplitl [Hs]; · iexact Hs
    isplitl [A1] <;> iassumption
  iintro ⟨Hs, Z1, O1⟩
  iapply (runs_last hx) $$ [Hs A2 C2]
  · isplitl [Hs]; · iexact Hs
    isplitl [A2] <;> iassumption
  iintro ⟨Hs, Z2, O2⟩
  isplitl [Hs]; · iexact Hs
  isplitl [Z1]; · iexact Z1
  isplitl [O1]; · iexact O1
  isplitl [Z2] <;> iassumption

/-! ## The whole body -/

/-- What the launch hands a device, besides its buffers. -/
def ghost : sProp 𝕄 :=
  iprop((dutyTok ER (barCell (yn c)) 0 false ∗ dutyTok ER (barCell (xn c)) 0 true)
    ∗ atPos ER (barCell c) 0 ∅ 0 ∗ cred (tallyAt (barCell c) () 2)
    ∗ (dutyTok ER (dmaCell c (inSem 0)) 0 false ∗ dutyTok ER (dmaCell c (inSem 1)) 0 false ∗ dutyTok ER (dmaCell c (inSem 2)) 0 false)
    ∗ (atPos ER (dmaCell c (inSem 0)) 0 ∅ 0 ∗ atPos ER (dmaCell c (inSem 1)) 0 ∅ 0 ∗ atPos ER (dmaCell c (inSem 2)) 0 ∅ 0)
    ∗ eachP (fun r => iprop(dutyTok ER (dmaCell c (sY r)) 0 false ∗ dutyTok ER (dmaCell (yn c) (rY r)) 0 false)) chunks
    ∗ eachP (fun r => iprop(dutyTok ER (dmaCell c (sX r)) 0 false ∗ dutyTok ER (dmaCell (xn c) (rX r)) 0 false)) chunks
    ∗ eachP (fun r => atPos ER (dmaCell c (sY r)) 0 ∅ 0) chunks ∗ eachP (fun r => atPos ER (dmaCell c (rY r)) 0 ∅ 0) chunks
    ∗ eachP (fun r => atPos ER (dmaCell c (sX r)) 0 ∅ 0) chunks ∗ eachP (fun r => atPos ER (dmaCell c (rX r)) 0 ∅ 0) chunks
    ∗ eachP (fun r => cred (tallyAt (dmaCell c (rY r)) () N)) chunks ∗ eachP (fun r => cred (tallyAt (dmaCell c (rX r)) () N)) chunks)

/-- The protocol's counters, all at zero. -/
def counters : sProp 𝕄 :=
  iprop(semVal (barCell c) 0 ∗ (semVal (dmaCell c (inSem 0)) 0 ∗ semVal (dmaCell c (inSem 1)) 0 ∗ semVal (dmaCell c (inSem 2)) 0)
    ∗ eachP (fun r => semVal (dmaCell c (sY r)) 0) chunks ∗ eachP (fun r => semVal (dmaCell c (rY r)) 0) chunks
    ∗ eachP (fun r => semVal (dmaCell c (sX r)) 0) chunks ∗ eachP (fun r => semVal (dmaCell c (rX r)) 0) chunks)

omit [FloatOps F] in
/-- The first chunk and the others. -/
theorem eachP_first (A : Fin 16 → sProp 𝕄) : eachP A chunks = iprop(A 0 ∗ eachP A chunksRest) := rfl

omit [FloatOps F] in
/-- Rows of any contents, in chunks of any contents. -/
theorem some_chunks {C : Type} {R : C → ℕ → ℕ → sProp 𝕄} (h : ∀ f, RowFam (R f)) (a : ℕ) :
    iprop(∃ f, R f a 512) ⊢ eachP (fun r => iprop(∃ f, R f (a + 32 * r.val) 32)) chunks := by
  iintro ⟨%f, H⟩
  have hf (r : Fin 16) : R f (a + 32 * r.val) 32 ⊢ (iprop(∃ f, R f (a + 32 * r.val) 32) : sProp 𝕄) := by
    iintro H; iexists f; iexact H
  iapply ((Entails.of_eq (rows_chunks (h f) a)).trans (eachP_mono hf chunks))
  iexact H

/-- A wait for a copy of the argument. -/
theorem runs_waitIn (k : Fin 3) {s s' : Shape} {e e' : EltTy} {sp sp' : Space} (src : Memref sig .tc sp s e) (dst : Memref sig .tc sp' s' e') {h h'}
    (hN : dst.view.dmaCredit = amt (1 + k.val)) (a n : ℕ) (ha : in0 c (1 + k.val) = a) (hn : inN (1 + k.val) = n) (l : List (Fin 16)) :
    Runs c iprop(st m K c (dueX c chunks + dueY c l) ∗ atPos ER (dmaCell c (inSem k)) 0 ∅ 0 ∗ cred (tallyAt (dmaCell c (inSem k)) () (amt (inSem k : Fin 68).val)))
      (Prog.lift (.waitDma2 (inSem k) src dst h h'))
      iprop(st m K c (dueX c chunks + dueY c l) ∗ semVal (dmaCell c (inSem k)) 0 ∗ xvR c a n (arg m c) ∗ argR c a n (arg m c)) := by
  have hw := runs_wait m K c (inSem k) (inSem_ne k) src dst (h := h) (h' := h') (hN.trans (amt_in k).symm) (dueX c chunks + dueY c l)
    (mayWait c _ 0 _ (by rw [lv_low c (inSem k) (by rw [inSem_val]; omega)]) (above_due c 0 (by omega) _ _))
  rw [pay_in, ha, hn] at hw; exact hw

/-- Device `c` runs its body: it ends with the gathered result, nothing owed, every counter at zero. -/
theorem runs_body :
    Runs c iprop(st m K c (O₀ c) ∗ argR c 0 1024 (arg m c) ∗ (∃ f, xvR c 0 1024 f) ∗ (∃ f, outR c 0 2048 f) ∗ ghost (F := F) c)
      (body c)
      iprop(st m K c 0 ∗ argR c 0 1024 (arg m c) ∗ (∃ f, xvR c 0 1024 f) ∗ outR c 0 2048 (outAt m c) ∗ counters (F := F) c) := by
  have hk : (1024 * (c.val % 2) + 512) - 512 * (c.val / 2) = keep0 c := by have hc : c.val < 4 := c.isLt; unfold keep0; omega
  have ho : (512 - 512 * (c.val / 2)) = oth0 c := by unfold oth0; omega
  unfold Runs Steps.body ghost
  iintro ⟨Hs, Harg, Hxv, ⟨%f, Hout⟩, ⟨TbY, TbX⟩, Pbar, Cbar, TI, ⟨P0, P1, P2⟩, TY, TX, PsY, PrY, PsX, PrX, CrY, CrX⟩
  ihave Hout' := (Entails.of_eq (rows_four (rowFam_out c f) c)) $$ Hout
  icases Hout' with ⟨⟨Owire, Okeep⟩, Oland, Ofar⟩
  iapply (runs_then (runs_fill m K c (O₀ c))) $$ [Hs Harg Hxv TI]
  · isplitl [Hs]; · iexact Hs
    isplitl [Harg]; · iexact Harg
    isplitl [Hxv] <;> iassumption
  iintro ⟨Hs, C0, C1, C2⟩
  iapply (runs_then (runs_meet m K c)) $$ [Hs Oland Ofar TbY TbX Pbar Cbar]
  · isplitl [Hs]; · iexact Hs
    isplitl [Oland]; · iexists f; iexact Oland
    isplitl [Ofar]; · iexists f; iexact Ofar
    isplitl [TbY]; · iexact TbY
    isplitl [TbX]; · iexact TbX
    isplitl [Pbar] <;> iassumption
  iintro ⟨Hs, Zbar, NY, NX⟩
  ihave NY' := (some_chunks (rowFam_out (yn c)) (wire0 c)) $$ NY
  ihave NX' := (some_chunks (rowFam_out (xn c)) (land0 c)) $$ NX
  ihave OW := (some_chunks (rowFam_out (F := F) c) (wire0 c)) $$ [Owire]
  · iexists f; iexact Owire
  ihave RY := (eachP_sep chunks) $$ [NY' TY]
  · isplitl [NY'] <;> iassumption
  ihave RY := (eachP_sep chunks) $$ [OW RY]
  · isplitl [OW] <;> iassumption
  ihave RY := (Entails.of_eq (eachP_first _)) $$ RY
  icases RY with ⟨RY0, RY⟩
  iapply (runs_then (runs_waitIn m K c 0 (argA c) (xvA c) (credit_0 c) _ _ (in0_0 c) inN_0 chunks)) $$ [Hs P0 C0]
  · isplitl [Hs]; · iexact Hs
    isplitl [P0] <;> iassumption
  iintro ⟨Hs, Z0, X0, A0⟩
  iapply (runs_then (runs_sendY m K c (dueX c chunks) 0 chunksRest)) $$ [Hs X0 RY0]
  · isplitl [Hs]; · iexact Hs
    unfold takesY
    isplitl [X0]; · iexact X0
    icases RY0 with ⟨H1, H2, H3, H4⟩
    isplitl [H1]; · iexact H1
    isplitl [H2]; · iexact H2
    isplitl [H3] <;> iassumption
  iintro ⟨Hs, L0⟩
  iapply (runs_then (runs_waitIn m K c 1 (argB c) (xvB c) (credit_1 c) _ _ (in0_1 c) inN_1 chunksRest)) $$ [Hs P1 C1]
  · isplitl [Hs]; · iexact Hs
    isplitl [P1] <;> iassumption
  iintro ⟨Hs, Z1, X1, A1⟩
  ihave X1' := (Entails.of_eq (rows_rest (rowFam_xv c (arg m c)) (src0 c))) $$ X1
  ihave RY := (eachP_sep chunksRest) $$ [X1' RY]
  · isplitl [X1'] <;> iassumption
  iapply (runs_then (runs_each (S := fun l => st m K c (dueX c chunks + dueY c l)) (A := takesY m c) (B := leavesY m c)
    (runs_sendY m K c (dueX c chunks)) chunksRest)) $$ [Hs RY]
  · isplitl [Hs] <;> iassumption
  iintro ⟨Hs, LY⟩
  iapply (runs_then (runs_waitIn m K c 2 (argC c) (xvC c) (credit_2 c) _ _ (in0_2 c) inN_2 [])) $$ [Hs P2 C2]
  · isplitl [Hs]; · iexact Hs
    isplitl [P2] <;> iassumption
  iintro ⟨Hs, Z2, X2, A2⟩
  iapply (runs_then (runs_convert m c (oth0 c) (keep0 c) 512 ((k0_off7_eq c).trans (by rw [ho])) ((k0_off8_eq c).trans (by rw [hk])) rfl (row_keep c))) $$ [X2 Okeep]
  · isplitl [X2]; · iexact X2
    iexists f; iexact Okeep
  iintro ⟨X2, Okeep⟩
  ihave RX := (eachP_sep chunks) $$ [NX' TX]
  · isplitl [NX'] <;> iassumption
  ihave RX := (eachP_sep chunks) $$ [CrY RX]
  · isplitl [CrY] <;> iassumption
  ihave RX := (eachP_sep chunks) $$ [PrY RX]
  · isplitl [PrY] <;> iassumption
  iapply (runs_then (runs_each (S := fun l => st m K c (dueX c l)) (A := takesX (F := F) c) (B := leavesX (F := F) c)
    (runs_sendX m K c) chunks)) $$ [Hs RX]
  · isplitl [Hs]
    · rw [show dueX c chunks + dueY c [] = dueX c chunks from add_zero _]; iexact Hs
    iexact RX
  iintro ⟨Hs, LX⟩
  ihave RA := (eachP_sep chunks) $$ [PrX CrX]
  · isplitl [PrX] <;> iassumption
  iapply (runs_then (runs_each (S := fun l => st m K c (dueX c [])) (A := fun r => iprop(atPos ER (dmaCell c (rX r)) 0 ∅ 0 ∗ cred (tallyAt (dmaCell c (rX r)) () N)))
    (B := fun r => iprop(semVal (dmaCell c (rX r)) 0 ∗ outR c (far0 c + 32 * r.val) 32 (outAt m c))) (fun r _ => runs_arrive m K c r) chunks)) $$ [Hs RA]
  · isplitl [Hs] <;> iassumption
  iintro ⟨Hs, LA⟩
  ihave LX := (eachP_unsep (A := fun r => semVal (dmaCell c (rY r)) 0) (B := fun r => cred (tallyAt (dmaCell c (sX r)) () N)) chunks) $$ LX
  icases LX with ⟨ZrY, CsX⟩
  ihave LY := (Entails.of_eq (eachP_first (leavesY m c)).symm) $$ [L0 LY]
  · isplitl [L0] <;> iassumption
  ihave LY := (eachP_unsep (A := fun r => xvR c (src0 c + 32 * r.val) 32 (arg m c)) (B := fun r => cred (tallyAt (dmaCell c (sY r)) () N)) chunks) $$ LY
  icases LY with ⟨XY, CsY⟩
  ihave LA := (eachP_unsep chunks) $$ LA
  icases LA with ⟨ZrX, Ofar⟩
  ihave RD := (eachP_sep chunks) $$ [PsX CsX]
  · isplitl [PsX] <;> iassumption
  ihave RD := (eachP_sep chunks) $$ [CsY RD]
  · isplitl [CsY] <;> iassumption
  ihave RD := (eachP_sep chunks) $$ [PsY RD]
  · isplitl [PsY] <;> iassumption
  iapply (runs_last (runs_each (S := fun l => st m K c (dueX c [])) (A := fun r => iprop(atPos ER (dmaCell c (sY r)) 0 ∅ 0 ∗ cred (tallyAt (dmaCell c (sY r)) () N)
          ∗ atPos ER (dmaCell c (sX r)) 0 ∅ 0 ∗ cred (tallyAt (dmaCell c (sX r)) () N)))
    (B := fun r => iprop(semVal (dmaCell c (sY r)) 0 ∗ outR c (wire0 c + 32 * r.val) 32 (outAt m c)
          ∗ semVal (dmaCell c (sX r)) 0 ∗ outR c (land0 c + 32 * r.val) 32 (outAt m c))) (fun r _ => runs_depart m K c r) chunks)) $$ [Hs RD]
  · isplitl [Hs] <;> iassumption
  iintro ⟨Hs, LD⟩
  ihave LD := (eachP_unsep chunks) $$ LD
  icases LD with ⟨ZsY, LD⟩
  ihave LD := (eachP_unsep chunks) $$ LD
  icases LD with ⟨Owire, LD⟩
  ihave LD := (eachP_unsep chunks) $$ LD
  icases LD with ⟨ZsX, Oland⟩
  isplitl [Hs]; · iexact Hs
  isplitl [A0 A1 A2]
  · iapply (Entails.of_eq (rows_three (rowFam_arg c (arg m c)) c).symm)
    isplitl [A0]; · iexact A0
    isplitl [A1] <;> iassumption
  isplitl [XY X2]
  · iexists (arg m c)
    iapply (Entails.of_eq (rows_three (rowFam_xv c (arg m c)) c).symm)
    ihave XY := (Entails.of_eq (eachP_first _)) $$ XY
    icases XY with ⟨X0, X1⟩
    isplitl [X0]; · iexact X0
    isplitl [X1]
    · iapply (Entails.of_eq (rows_rest (rowFam_xv c (arg m c)) (src0 c)).symm); iexact X1
    iexact X2
  isplitl [Owire Okeep Oland Ofar]
  · iapply (Entails.of_eq (rows_four (rowFam_out c (outAt m c)) c).symm)
    isplitl [Owire Okeep]
    · isplitl [Owire]
      · iapply (Entails.of_eq (rows_chunks (rowFam_out c (outAt m c)) (wire0 c)).symm); iexact Owire
      iexact Okeep
    isplitl [Oland]
    · iapply (Entails.of_eq (rows_chunks (rowFam_out c (outAt m c)) (land0 c)).symm); iexact Oland
    iapply (Entails.of_eq (rows_chunks (rowFam_out c (outAt m c)) (far0 c)).symm); iexact Ofar
  unfold counters
  isplitl [Zbar]; · iexact Zbar
  isplitl [Z0 Z1 Z2]
  · isplitl [Z0]; · iexact Z0
    isplitl [Z1] <;> iassumption
  isplitl [ZsY]; · iexact ZsY
  isplitl [ZrY]; · iexact ZrY
  isplitl [ZsX] <;> iassumption

end Cert.KernelIdeal.Gather
-- ==== Proof.Deal.lean ====
module

public import proofs.«01_k».proof.Proof.Body

/-! What the launch makes and deals: the protocol's cells and tokens, each token to the device that
pays with it, and each device's credit for what its neighbours owe it. -/

@[expose] public section

noncomputable section

namespace Cert.KernelIdeal.Gather

open Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's cells, one by one -/

theorem inSem_inj : Function.Injective fun k : Fin 3 => (inSem k : Fin 68) := fun a b h => by
  have := congrArg Fin.val h; dsimp only at this; rw [inSem_val, inSem_val] at this; exact Fin.ext (by omega)
theorem sY_inj : Function.Injective fun r : Fin 16 => (sY r : Fin 68) := fun a b h => by
  have := congrArg Fin.val h; dsimp only at this; rw [sY_val, sY_val] at this; exact Fin.ext (by omega)
theorem rY_inj : Function.Injective fun r : Fin 16 => (rY r : Fin 68) := fun a b h => by
  have := congrArg Fin.val h; dsimp only at this; rw [rY_val, rY_val] at this; exact Fin.ext (by omega)
theorem sX_inj : Function.Injective fun r : Fin 16 => (sX r : Fin 68) := fun a b h => by
  have := congrArg Fin.val h; dsimp only at this; rw [sX_val, sX_val] at this; exact Fin.ext (by omega)
theorem rX_inj : Function.Injective fun r : Fin 16 => (rX r : Fin 68) := fun a b h => by
  have := congrArg Fin.val h; dsimp only at this; rw [rX_val, rX_val] at this; exact Fin.ext (by omega)

/-- The numbers from `a` to `b - 1`. -/
abbrev span (a b : ℕ) : Finset (Fin 68) := Finset.univ.filter fun k => a ≤ k.val ∧ k.val < b

/-- A family of `n` semaphores numbered on from `a` takes exactly those numbers. -/
theorem span_map {n : ℕ} (f : Fin n → Fin 68) (hf : Function.Injective f) (a b : ℕ) (hb : b = a + n) (h : ∀ r, (f r).val = a + r.val) :
    span a b = Finset.univ.map ⟨f, hf⟩ := by
  subst hb
  ext k
  rw [Finset.mem_filter, Finset.mem_map]
  constructor
  · rintro ⟨-, h1, h2⟩
    exact ⟨⟨k.val - a, by omega⟩, Finset.mem_univ _, Fin.ext ((h _).trans (by show a + (k.val - a) = k.val; omega))⟩
  · rintro ⟨r, -, rfl⟩
    refine ⟨Finset.mem_univ _, ?_⟩
    show a ≤ (f r).val ∧ (f r).val < a + n
    rw [h]; have := r.isLt; omega

omit [FloatOps F] in
/-- A product over the numbers of a span, cut at a number in it. -/
theorem span_cut (Φ : Fin 68 → sProp 𝕄) (a b c : ℕ) (h : a ≤ b) (h' : b ≤ c) : bigSep (span a c) Φ = iprop(bigSep (span a b) Φ ∗ bigSep (span b c) Φ) := by
  have e : span a c = span a b ∪ span b c := by
    ext k; rw [Finset.mem_union, Finset.mem_filter, Finset.mem_filter, Finset.mem_filter]
    have := Finset.mem_univ k
    constructor
    · rintro ⟨-, h1, h2⟩
      by_cases h3 : k.val < b
      · exact Or.inl ⟨this, h1, h3⟩
      · exact Or.inr ⟨this, by omega, h2⟩
    · rintro (⟨-, h1, h2⟩ | ⟨-, h1, h2⟩) <;> exact ⟨this, by omega, by omega⟩
  rw [e, bigSep_union]; · rfl
  rw [Finset.disjoint_left]; intro k h1 h2
  rw [Finset.mem_filter] at h1 h2; omega

omit [FloatOps F] in
/-- A product over a family of sixteen semaphores. -/
theorem span_each (Φ : Fin 68 → sProp 𝕄) (f : Fin 16 → Fin 68) (hf : Function.Injective f) (a b : ℕ) (hb : b = a + 16) (h : ∀ r, (f r).val = a + r.val) :
    bigSep (span a b) Φ = eachP (fun r => Φ (f r)) chunks := by
  rw [span_map f hf a b hb h, bigSep_map, eachP_chunks]; rfl

omit [FloatOps F] in
/-- A product over a device's cells, family by family. -/
theorem cells_split (Ψ : GSem nD τ sig → sProp 𝕄) (c : Dev nD) :
    bigSep Finset.univ (fun k : Fin 68 => Ψ (kcell (c, k)))
      = iprop(Ψ (barCell c) ∗ (Ψ (dmaCell c (inSem 0)) ∗ Ψ (dmaCell c (inSem 1)) ∗ Ψ (dmaCell c (inSem 2)))
        ∗ eachP (fun r => Ψ (dmaCell c (sY r))) chunks ∗ eachP (fun r => Ψ (dmaCell c (rY r))) chunks
        ∗ eachP (fun r => Ψ (dmaCell c (sX r))) chunks ∗ eachP (fun r => Ψ (dmaCell c (rX r))) chunks) := by
  have e : (Finset.univ : Finset (Fin 68)) = span 0 68 := by
    ext k; rw [Finset.mem_filter]; have := k.isLt; exact ⟨fun h => ⟨h, by omega, this⟩, fun h => h.1⟩
  have e0 : span 0 1 = {0} := by
    ext k; rw [Finset.mem_filter, Finset.mem_singleton]
    exact ⟨fun h => Fin.ext (by show k.val = 0; omega), fun h => by rw [h]; exact ⟨Finset.mem_univ _, Nat.le_refl _, Nat.one_pos⟩⟩
  rw [e, span_cut _ 0 1 68 (by omega) (by omega), span_cut _ 1 4 68 (by omega) (by omega), span_cut _ 4 20 68 (by omega) (by omega),
    span_cut _ 20 36 68 (by omega) (by omega), span_cut _ 36 52 68 (by omega) (by omega), e0, bigSep_singleton,
    span_map (fun k : Fin 3 => (inSem k : Fin 68)) inSem_inj 1 4 rfl inSem_val, bigSep_map,
    bigSep_univ_eq_bigSepL [0, 1, 2] (by decide) (by decide), bigSepL_cons_cons, bigSepL_cons_cons, bigSepL_singleton,
    span_each _ (fun r => (sY r : Fin 68)) sY_inj 4 20 rfl sY_val, span_each _ (fun r => (rY r : Fin 68)) rY_inj 20 36 rfl rY_val,
    span_each _ (fun r => (sX r : Fin 68)) sX_inj 36 52 rfl sX_val, span_each _ (fun r => (rX r : Fin 68)) rX_inj 52 68 rfl rX_val]
  dsimp only [Function.Embedding.coeFn_mk]
  rw [kcell_dma c (inSem 0) (inSem_ne 0), kcell_dma c (inSem 1) (inSem_ne 1), kcell_dma c (inSem 2) (inSem_ne 2)]
  simp only [kcell_dma c _ (sY_ne _), kcell_dma c _ (rY_ne _), kcell_dma c _ (sX_ne _), kcell_dma c _ (rX_ne _)]
  rfl

/-! ## The cells and the tokens -/

theorem csem_injective : Function.Injective csem := fun k k' h => by
  unfold csem at h
  by_cases hk : k = 0 <;> by_cases hk' : k' = 0
  · rw [hk, hk']
  · rw [if_pos hk, if_neg hk'] at h; cases h
  · rw [if_neg hk, if_pos hk'] at h; cases h
  · rw [if_neg hk, if_neg hk'] at h; exact SemLoc.dma.inj h
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- Every cell's token, and the second of a barrier. -/
def firstToks : Finset (GSem nD τ sig × ℕ × Bool) :=
  Finset.univ.map ⟨fun ck : Dev nD × Fin 68 => (kcell ck, 0, false), fun _ _ h => kcell_injective (congrArg Prod.fst h)⟩
def secondToks : Finset (GSem nD τ sig × ℕ × Bool) :=
  Finset.univ.map ⟨fun c : Dev nD => (barCell c, 0, true), fun _ _ h => congrArg (fun x : GSem nD τ sig × ℕ × Bool => x.1.1.1) h⟩
def allToks : Finset (GSem nD τ sig × ℕ × Bool) := firstToks ∪ secondToks
theorem toks_disjoint : Disjoint firstToks secondToks := by
  rw [Finset.disjoint_left]; intro x h h'
  obtain ⟨_, -, rfl⟩ := Finset.mem_map.mp h
  obtain ⟨_, -, h⟩ := Finset.mem_map.mp h'
  exact Bool.noConfusion (show true = false from congrArg (fun x : GSem nD τ sig × ℕ × Bool => x.2.2) h)

def u₀ : UU := (initOf (Pipeline.cells cfgs cellOf_inj) (Pipeline.launchToks cfgs cellOf_inj), initOf allCells allToks)

/-- The tokens of a device's cells. -/
def tok1 (c : Dev nD) : sProp 𝕄 := dutyTok ER (barCell c) 0 false
def tok2 (c : Dev nD) : sProp 𝕄 := dutyTok ER (barCell c) 0 true
def tokIn (c : Dev nD) : sProp 𝕄 :=
  iprop(dutyTok ER (dmaCell c (inSem 0)) 0 false ∗ dutyTok ER (dmaCell c (inSem 1)) 0 false ∗ dutyTok ER (dmaCell c (inSem 2)) 0 false)
def tokSY (c : Dev nD) : sProp 𝕄 := eachP (fun r => dutyTok ER (dmaCell c (sY r)) 0 false) chunks
def tokRY (c : Dev nD) : sProp 𝕄 := eachP (fun r => dutyTok ER (dmaCell c (rY r)) 0 false) chunks
def tokSX (c : Dev nD) : sProp 𝕄 := eachP (fun r => dutyTok ER (dmaCell c (sX r)) 0 false) chunks
def tokRX (c : Dev nD) : sProp 𝕄 := eachP (fun r => dutyTok ER (dmaCell c (rX r)) 0 false) chunks
def toks (c : Dev nD) : sProp 𝕄 := iprop((tok1 c ∗ tokIn c ∗ tokSY c ∗ tokRY c ∗ tokSX c ∗ tokRX c) ∗ tok2 c)
/-- The tokens a device pays with: its neighbours' where a neighbour's cell is credited. -/
def payToks (c : Dev nD) : sProp 𝕄 :=
  iprop((tok1 (yn c) ∗ tokIn c ∗ tokSY c ∗ tokRY (yn c) ∗ tokSX c ∗ tokRX (xn c)) ∗ tok2 (xn c))

omit [FloatOps F] in
theorem toks_dealt : (bigSep Finset.univ fun c : Dev nD => (toks c : sProp 𝕄)) = bigSep Finset.univ fun c : Dev nD => payToks c := by
  unfold toks payToks
  simp only [bigSep_sep']
  rw [bigSep_univ_equiv alongY (fun c : Dev nD => (tok1 c : sProp 𝕄)), bigSep_univ_equiv alongX (fun c : Dev nD => (tok2 c : sProp 𝕄)),
    bigSep_univ_equiv alongY (fun c : Dev nD => (tokRY c : sProp 𝕄)), bigSep_univ_equiv alongX (fun c : Dev nD => (tokRX c : sProp 𝕄))]
  rfl

/-- A device's positions at its cells. -/
def places (c : Dev nD) : sProp 𝕄 := bigSep Finset.univ fun k : Fin 68 => atPos ER (kcell (c, k)) 0 ∅ 0

/-- What the launch's element gives for a device, -/
def G (c : Dev nD) : sProp 𝕄 :=
  iprop((bigSep Finset.univ fun k : Fin 68 => roundState ER (Rd m) (kcell (c, k)) 0) ∗ places c
    ∗ (bigSep Finset.univ fun k : Fin 68 => reached ER (kcell (c, k)) 0) ∗ toks c)

/-- what all devices know, but the order of the waits, -/
def known (K : Dev nD × Fin 68 → ℕ) : sProp 𝕄 :=
  iprop((bigSep Finset.univ fun ck : Dev nD × Fin 68 => cellInv ER (Rd m) (K ck) (kcell ck))
    ∗ bigSep Finset.univ fun ck : Dev nD × Fin 68 => reached ER (kcell ck) 0)

instance known_persistent (K : Dev nD × Fin 68 → ℕ) : BI.Persistent (known m K) := by unfold known; infer_instance

/-- and what is made of it before the devices start. -/
def G' (c : Dev nD) : sProp 𝕄 := iprop(∃ K, known m K ∗ places c ∗ payToks c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 68 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks
    rw [bigSep_union toks_disjoint, bigSep_sep']
    congr 1
    · unfold firstToks; rw [bigSep_map, bigSep_univ_prod]
      exact bigSep_congr fun c _ => cells_split (fun g => dutyTok ER g 0 false) c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat']; · iexact Hat'
  isplitl [Hr']; · iexact Hr'
  iexact Htok'

/-! ## The counters -/

/-- The kernel's own semaphores, all its transfers'. -/
abbrev osem (k : Fin 67) : SemLoc sig := .dma (k.succ : Fin 68)

theorem ownSemFacts : Pipeline.OwnSemFacts cfg0.spec osem where
  isScoped := by decide
  inj := fun a b h => Fin.succ_injective _ (SemLoc.dma.inj h)
  disj := fun k w s h => absurd (SemLoc.dma.inj h) (by revert k w s; decide)

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The barrier's counter and those of the transfers. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 68 => semVal (kcell (c, k)) 0 : sProp 𝕄) := by
  unfold Pipeline.ownSems0
  rw [unscopedSems0_eq, Fin.univ_succ, Finset.cons_eq_insert, bigSep_insert (by rw [Finset.mem_map]; rintro ⟨k, -, h⟩; exact Fin.succ_ne_zero k h), bigSep_map]
  rfl

omit [FloatOps F] in
theorem sems0_counters (c : Dev nD) : counters c ⊢
    iprop(unscopedSems0 c ∗ Pipeline.ownSems0 (Ix := Unit) (Name := ℕ) (U := UU) (Lvl := ℕ) (Val := Elt F) (τ := τ) osem c) := by
  rw [sems0_eq, cells_split (fun g => (semVal g 0 : sProp 𝕄))]; exact BI.Entails.refl _

/-! ## The invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k)))) ∗ places c
          ∗ (bigSep Finset.univ fun k : Fin 68 => reached ER (kcell (c, k)) 0) ∗ toks c) := by
  have hal : iprop((bigSep Finset.univ fun k : Fin 68 => semVal (kcell (c, k)) 0) ∗ bigSep Finset.univ fun k : Fin 68 => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hrest⟩
  ihave Hv := (Entails.of_eq (sems0_eq (F := F) c)) $$ [Hos Hus]
  · isplitl [Hus] <;> iassumption
  imod hal $$ [Hv Hst] with Hinv
  · isplitl [Hv] <;> iassumption
  imodintro
  isplitl [Hinv] <;> iassumption

theorem regroup :
    (bigSep Finset.univ fun c : Dev nD => iprop((bigSep Finset.univ fun k => iprop(∃ κ : ℕ, cellInv ER (Rd m) κ (kcell (c, k)))) ∗ places c
          ∗ (bigSep Finset.univ fun k : Fin 68 => reached ER (kcell (c, k)) 0) ∗ toks c) : sProp 𝕄)
      ⊢ bigSep Finset.univ (G' m) := by
  rw [bigSep_sep', bigSep_sep', bigSep_sep', ← bigSep_univ_prod (fun ck : Dev nD × Fin 68 => iprop(∃ κ : ℕ, cellInv ER (Rd m) κ (kcell ck))),
    ← bigSep_univ_prod (fun ck : Dev nD × Fin 68 => (reached ER (kcell ck) 0 : sProp 𝕄)), toks_dealt]
  iintro ⟨HI, Hat, #HR, Htok⟩
  ihave HK := (BI.bigSep_exists_pi Finset.univ (fun (ck : Dev nD × Fin 68) (κ : ℕ) => (cellInv ER (Rd m) κ (kcell ck) : sProp 𝕄))) $$ HI
  icases HK with ⟨%K, #HI⟩
  have hG : iprop((bigSep Finset.univ fun _ : Dev nD => known m K) ∗ (bigSep Finset.univ fun c : Dev nD => (places c : sProp 𝕄)) ∗ bigSep Finset.univ fun c : Dev nD => payToks c)
      ⊢ bigSep Finset.univ (G' m) := by
    rw [← bigSep_sep', ← bigSep_sep']
    exact bigSep_mono fun c _ => show iprop(known m K ∗ places c ∗ payToks c) ⊢ G' m c by unfold G'; iintro H; iexists K; iexact H
  iapply hG
  isplitr
  · iapply (BI.bigSep_of_persistent Finset.univ (known m K))
    unfold known; isplitl; · iexact HI
    iexact HR
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

variable (c d : Dev nD)

/-- A debt built up over a list, `N` at a neighbour's cell for each number. -/
theorem due_at (D : List (Fin 16) → CellTallies nD τ sig Unit) (nb : Dev nD → Dev nD) (hnb : ∀ e, nb (nb e) = e) (q : Fin 16 → DmaSem sig)
    (hq : Function.Injective q) (h0 : D [] = 0) (hD : ∀ a l, D (a :: l) = D l + tallyAt (dmaCell (nb d) (q a)) () N) (r : Fin 16) :
    (l : List (Fin 16)) → l.Nodup → D l (dmaCell c (q r)) () = if d = nb c ∧ r ∈ l then N else 0
  | [], _ => by rw [h0]; exact (if_neg fun h => List.not_mem_nil h.2).symm
  | a :: l, h => by
    rw [hD, Pi.add_apply, Finsupp.add_apply, tallyAt_apply, due_at D nb hnb q hq h0 hD r l (List.nodup_cons.mp h).2]
    by_cases hd : d = nb c
    · subst hd
      rw [hnb]
      by_cases ha : r = a
      · subst ha; rw [if_neg fun h' => (List.nodup_cons.mp h).1 h'.2, if_pos ⟨rfl, rfl⟩, if_pos ⟨rfl, List.mem_cons_self⟩, Nat.zero_add]
      · rw [if_neg (c := dmaCell c (q r) = dmaCell c (q a) ∧ () = ()) fun h' => ha (hq (SemLoc.dma.inj (congrArg Prod.snd h'.1))), Nat.add_zero]
        exact if_congr ⟨fun h' => ⟨rfl, List.mem_cons_of_mem _ h'.2⟩, fun h' => ⟨rfl, (List.mem_cons.mp h'.2).resolve_left ha⟩⟩ rfl rfl
    · have h1 : ¬(dmaCell c (q r) = dmaCell (nb d) (q a) ∧ () = ()) := fun h' => hd (by
        rw [show c = nb d from congrArg (fun g : GSem nD τ sig => g.1.1) h'.1, hnb])
      rw [if_neg h1, if_neg fun h' => hd h'.1, if_neg fun h' => hd h'.1]

theorem dueY_at (r : Fin 16) : dueY d chunks (dmaCell c (rY r)) () = if d = yn c then N else 0 :=
  (due_at c d (dueY d) yn yn_yn rY rY_inj rfl (fun _ _ => rfl) r chunks (by decide)).trans
    (if_congr ⟨fun h => h.1, fun h => ⟨h, by revert r; decide⟩⟩ rfl rfl)
theorem dueX_at (r : Fin 16) : dueX d chunks (dmaCell c (rX r)) () = if d = xn c then N else 0 :=
  (due_at c d (dueX d) xn xn_xn rX rX_inj rfl (fun _ _ => rfl) r chunks (by decide)).trans
    (if_congr ⟨fun h => h.1, fun h => ⟨h, by revert r; decide⟩⟩ rfl rfl)

/-- Nothing is owed elsewhere. -/
theorem dueY_else (l : List (Fin 16)) (g : GSem nD τ sig) (h : ∀ r, g ≠ dmaCell (yn d) (rY r)) : dueY d l g () = 0 :=
  Nat.eq_zero_of_not_pos fun h' => (dueY_pos d h').elim h
theorem dueX_else (l : List (Fin 16)) (g : GSem nD τ sig) (h : ∀ r, g ≠ dmaCell (xn d) (rX r)) : dueX d l g () = 0 :=
  Nat.eq_zero_of_not_pos fun h' => (dueX_pos d h').elim h

theorem rY_ne_rX (a b : Dev nD) (r s : Fin 16) : dmaCell a (rY r) ≠ dmaCell b (rX s) := fun h => by
  have := congrArg Fin.val (SemLoc.dma.inj (congrArg Prod.snd h)); rw [rY_val, rX_val] at this; omega
theorem bar_ne_dma (a b : Dev nD) (q : DmaSem sig) : barCell a ≠ dmaCell b q := fun h => by cases congrArg Prod.snd h

theorem owed_eq (g : GSem nD τ sig) : O₀ d g () = dueX d chunks g () + dueY d chunks g ()
    + (if g = barCell (xn d) ∧ () = () then 1 else 0) + (if g = barCell (yn d) ∧ () = () then 1 else 0) := by
  unfold O₀ O₁ O₂
  rw [Pi.add_apply, Finsupp.add_apply, Pi.add_apply, Finsupp.add_apply, Pi.add_apply, Finsupp.add_apply, tallyAt_apply, tallyAt_apply]

theorem owed_bar : O₀ d (barCell c) () = (if d = xn c then 1 else 0) + (if d = yn c then 1 else 0) := by
  rw [owed_eq, dueX_else _ _ _ fun r => bar_ne_dma _ _ _, dueY_else _ _ _ fun r => bar_ne_dma _ _ _]
  rw [show (0 : ℕ) + 0 = 0 from rfl, Nat.zero_add]
  congr 1
  · refine if_congr ⟨fun h => ?_, fun h => ?_⟩ rfl rfl
    · rw [show c = xn d from congrArg (fun g : GSem nD τ sig => g.1.1) h.1, xn_xn]
    · rw [h, xn_xn]; exact ⟨rfl, rfl⟩
  · refine if_congr ⟨fun h => ?_, fun h => ?_⟩ rfl rfl
    · rw [show c = yn d from congrArg (fun g : GSem nD τ sig => g.1.1) h.1, yn_yn]
    · rw [h, yn_yn]; exact ⟨rfl, rfl⟩
theorem no_bar (e : Dev nD) (q : DmaSem sig) : (if dmaCell c q = barCell e ∧ () = () then 1 else 0) = 0 := if_neg fun h => bar_ne_dma _ _ _ h.1.symm
theorem owed_rY (r : Fin 16) : O₀ d (dmaCell c (rY r)) () = if d = yn c then N else 0 := by
  rw [owed_eq, dueX_else _ _ _ fun s => rY_ne_rX _ _ _ _, dueY_at c d r, no_bar, no_bar, Nat.zero_add]
  rfl
theorem owed_rX (r : Fin 16) : O₀ d (dmaCell c (rX r)) () = if d = xn c then N else 0 := by
  rw [owed_eq, dueY_else _ _ _ fun s h => rY_ne_rX _ _ _ _ h.symm, dueX_at c d r, no_bar, no_bar]
  rfl

theorem launch_eq (g : GSem nD τ sig) (n : ℕ) (h : ∑ e : Dev nD, O₀ e g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar : tallyOn (barCell c) (launchCredit (Pipeline.owing O₀) 0 (barCell c)) = (tallyAt (barCell c) () 2 : CellTallies nD τ sig Unit) :=
  launch_eq _ _ (by
    rw [Finset.sum_congr rfl fun e _ => owed_bar c e, Finset.sum_add_distrib, Finset.sum_ite_eq' Finset.univ (xn c) fun _ => 1,
      Finset.sum_ite_eq' Finset.univ (yn c) fun _ => 1, if_pos (Finset.mem_univ _), if_pos (Finset.mem_univ _)])
theorem launch_rY (r : Fin 16) : tallyOn (dmaCell c (rY r)) (launchCredit (Pipeline.owing O₀) 0 (dmaCell c (rY r))) = (tallyAt (dmaCell c (rY r)) () N : CellTallies nD τ sig Unit) :=
  launch_eq _ _ (by rw [Finset.sum_congr rfl fun e _ => owed_rY c e r, Finset.sum_ite_eq' Finset.univ (yn c) fun _ => N, if_pos (Finset.mem_univ _)])
theorem launch_rX (r : Fin 16) : tallyOn (dmaCell c (rX r)) (launchCredit (Pipeline.owing O₀) 0 (dmaCell c (rX r))) = (tallyAt (dmaCell c (rX r)) () N : CellTallies nD τ sig Unit) :=
  launch_eq _ _ (by rw [Finset.sum_congr rfl fun e _ => owed_rX c e r, Finset.sum_ite_eq' Finset.univ (xn c) fun _ => N, if_pos (Finset.mem_univ _)])

omit [FloatOps F] in
theorem creds : (Pipeline.launchCred O₀ c : sProp 𝕄) ⊢ iprop(cred (tallyAt (barCell c) () 2)
    ∗ eachP (fun r => cred (tallyAt (dmaCell c (rY r)) () N)) chunks ∗ eachP (fun r => cred (tallyAt (dmaCell c (rX r)) () N)) chunks) := by
  have hsub : (Pipeline.launchCred O₀ c : sProp 𝕄) ⊢ bigSep Finset.univ fun k : Fin 68 => cred (tallyOn (kcell (c, k)) (launchCredit (Pipeline.owing O₀) 0 (kcell (c, k)))) := by
    unfold Pipeline.launchCred
    refine (bigSep_subset (Finset.subset_univ (Finset.univ.map ⟨csem, csem_injective⟩))).trans ?_
    rw [bigSep_map]; exact BI.Entails.refl _
  refine hsub.trans ?_
  rw [cells_split (fun g => (cred (tallyOn g (launchCredit (Pipeline.owing O₀) 0 g)) : sProp 𝕄)), launch_bar]
  simp only [launch_rY, launch_rX]
  iintro ⟨H1, -, -, H2, -, H3⟩
  isplitl [H1]; · iexact H1
  isplitl [H2] <;> iassumption

/-- A device's start, as its body takes it. -/
theorem ghost_intro : iprop(places c ∗ payToks c ∗ Pipeline.launchCred O₀ c) ⊢ (ghost c : sProp 𝕄) := by
  unfold places payToks ghost tok1 tok2 tokIn tokSY tokRY tokSX tokRX
  rw [cells_split (fun g => (atPos ER g 0 ∅ 0 : sProp 𝕄))]
  iintro ⟨⟨H1, H2, H3, H4, H5, H6⟩, ⟨⟨T1, T2, T3, T4, T5, T6⟩, T7⟩, HC⟩
  ihave HC := (creds (F := F) c) $$ HC
  icases HC with ⟨C1, C2, C3⟩
  isplitl [T1 T7]
  · isplitl [T1] <;> iassumption
  isplitl [H1]; · iexact H1
  isplitl [C1]; · iexact C1
  isplitl [T2]; · iexact T2
  isplitl [H2]; · iexact H2
  isplitl [T3 T4]
  · iapply (eachP_sep chunks); isplitl [T3] <;> iassumption
  isplitl [T5 T6]
  · iapply (eachP_sep chunks); isplitl [T5] <;> iassumption
  isplitl [H3]; · iexact H3
  isplitl [H4]; · iexact H4
  isplitl [H5]; · iexact H5
  isplitl [H6]; · iexact H6
  isplitl [C2] <;> iassumption

end Cert.KernelIdeal.Gather
-- ==== Proof.Launch.lean ====
module

public import proofs.«01_k».proof.Proof.Deal
public import proofs.«01_k».proof.Proof.Gen.KernelIdeal.Launch
public import proofs.«01_k».proof.Proof.Gen.KernelIdeal.Points
public import Idealize.ShloMosaic.Lib.Pipeline.ValueKit
public import Idealize.ShloMosaic.Lib.Pipeline.CollectiveSegs

/-! The run of the four devices: every device ends with the gathered result, its argument as it was,
and every counter at zero. -/

@[expose] public section

noncomputable section

namespace Cert.KernelIdeal.Gather

open Cert.KernelIdeal.Gen Cert.KernelIdeal.Steps
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers as their rows -/

omit [FloatOps F] in
theorem out_whole (c : Dev nD) (f : S2048x512.Idx → F .bf16) : outR c 0 2048 f = (((c : Thread nD τ).loc cc0_stg0_0) ↦{fullShare} f : sProp 𝕄) := by
  unfold outR; rw [rows_all]
omit [FloatOps F] in
theorem xv_whole (c : Dev nD) (f : S1024x512.Idx → F .f32) : xvR c 0 1024 f = (((c : Thread nD τ).loc cc0_scratch0) ↦{fullShare} f : sProp 𝕄) := by
  unfold xvR; rw [rows_all]
omit [FloatOps F] in
theorem arg_whole (c : Dev nD) (f : S1024x512.Idx → F .f32) : argR c 0 1024 f = (((c : Thread nD τ).loc main_arg0) ↦{fullShare} f : sProp 𝕄) := by
  unfold argR; rw [rows_all]

/-! ## The data of the launch -/

/-- What a device's body starts from, besides its buffers in the core's memory, and ends with. -/
def start (c : Dev nD) : sProp 𝕄 := iprop((∃ K, records m K) ∗ argR c 0 1024 (arg m c) ∗ ghost c)
def Φ₀ (c : Dev nD) : sProp 𝕄 := iprop(start m c ∗ ∃ f, xvR c 0 1024 f)
def Φ₁ (c : Dev nD) : sProp 𝕄 := iprop(argR c 0 1024 (arg m c) ∗ (∃ f, xvR c 0 1024 f) ∗ counters c)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

omit [FloatOps F] in
/-- A whole buffer held at some contents that a view of all of it reads. -/
theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The result's staging buffer at some contents equal to `X`. -/
abbrev stg (c : Dev nD) (X : S2048x512.Idx → F .bf16) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(Φ₀ m c ∗ (dats m 0 c).owesAt () t0_0.castSucc ∗ ∃ d, stg c ((dats m 0 c).before (0 : Fin 1) t0_0 d))
def bodyPost (c : Dev nD) : sProp 𝕄 := iprop(Φ₁ m c ∗ (dats m 0 c).owesAt () t0_0.succ ∗ stg c (outAt m c))

/-- The body as the pipeline calls it, at any device. -/
theorem body_runs (c : Dev nD) (h0 h1 h2) :
    bodyPre m c ⊢ wp frame (wpE (defs₀ (F := F)) 𝒱₀ (c : Thread nD τ) none) Set.univ
      (cc0_body argM h0 outM h1 xvM h2 cc0_scratch1 cc0_scratch2 cc0_scratch3 cc0_scratch4 cc0_scratch5) (fun _ => bodyPost m c) := by
  rw [cc0_body_eq]
  show bodyPre m c ⊢ wp frame (wpE (defs₀ (F := F)) 𝒱₀ (c : Thread nD τ) none) Set.univ (Prog.op .deviceId fun d => body d) (fun _ => bodyPost m c)
  rw [wp_deviceId]
  unfold bodyPre Φ₀ start Dat.owesAt Pipeline.owesWithin
  iintro ⟨⟨⟨⟨%K, HK⟩, Harg, Hg⟩, Hxv⟩, ⟨%W, -, HO⟩, %d, %f, -, Hout⟩
  iapply (runs_last (runs_body m K c) (fun _ => bodyPost m c)) $$ [HK Harg Hg Hxv HO Hout]
  · unfold st
    isplitl [HK HO]
    · isplitl [HK]; · iexact HK
      iexists W; iexact HO
    isplitl [Harg]; · iexact Harg
    isplitl [Hxv]; · iexact Hxv
    isplitl [Hout]; · iexists f; rw [out_whole]; iexact Hout
    iexact Hg
  unfold st
  iintro ⟨⟨-, %W', HO⟩, Harg, Hxv, Hout, Hc⟩
  unfold bodyPost Φ₁ Dat.owesAt Pipeline.owesWithin
  isplitl [Harg Hxv Hc]
  · isplitl [Harg]; · iexact Harg
    isplitl [Hxv] <;> iassumption
  isplitl [HO]
  · iexists W'
    isplitr; · ipureintro; exact fun _ _ => Or.inl trivial
    iexact HO
  iexists (outAt m c); isplitr; · (ipureintro; rfl)
  rw [← out_whole]; iexact Hout

set_option maxRecDepth 65536 in
/-- What the pipeline asks of the body. -/
theorem body_obligation (c : Dev nD) : BodyObligation (dats (F := F) m 0 c) (defs₀ (F := F)) 𝒱₀ () Set.univ := fun t => by
  rw [fin_N0 t, bigSep_W0, bigSep_W0]
  simp only [owns_all]
  exact body_runs m c _ (hstage0_0 0) _

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' known records
  iintro ⟨Harg, Hlev, Hcr, -, %K, ⟨HI, HR⟩, Hp, Ht⟩
  imodintro
  isplitl
  · isplitl [HI HR Hlev]
    · iexists K
      isplitl [HI]; · iexact HI
      isplitl [HR] <;> iassumption
    isplitl [Harg]; · rw [arg_whole]; iexact Harg
    iapply (ghost_intro (F := F) c)
    isplitl [Hp]; · iexact Hp
    isplitl [Ht] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [xv_whole]; iexact Hr

theorem phi1_exit (c : Dev nD) :
    (dats m 0 c).Φ (Fin.last cfg0.N) ⊢ iprop((unscopedSems0 c ∗ argR c 0 1024 (arg m c)) ∗ Pipeline.ownSems0 osem c ∗ Pipeline.scopedRest cfg0.spec c) := by
  rw [show (dats m 0 c).Φ (Fin.last cfg0.N) = Φ₁ m c from rfl, scopedRest0_eq]
  unfold Φ₁
  iintro ⟨Harg, ⟨%f, Hr⟩, Hc⟩
  ihave Hc := (sems0_counters (F := F) c) $$ Hc
  icases Hc with ⟨Hu, Ho⟩
  isplitl [Hu Harg]
  · isplitl [Hu] <;> iassumption
  isplitl [Ho]; · iexact Ho
  iexists f; rw [← xv_whole]; iexact Hr

theorem stage_waits (c : Dev nD) : (levAts L lv : sProp 𝕄) ⊢ Pipeline.cellsWaits cfgs (dats m) () 0 c :=
  Pipeline.cellsWaits_intro cfgs (dats m) () 0 c fun w s t =>
    mayWait c _ 0 _ (Nat.le_of_eq (lv_low c _ (by revert w s; decide))) (by
      rcases t with ⟨_ | _, ht⟩
      · exact above_O₀ c
      · exact fun g u h => absurd h (Nat.lt_irrefl 0))

/-- A device's argument and its counters are read off the final state. -/
theorem read_end (c : Dev nD) (s' : Phys nD τ sig (Elt F)) :
    iprop((unscopedSems0 c ∗ argR c 0 1024 (arg m c)) ∗ emp ∗ SI s')
      ⊢ |={Set.univ}=> iprop(⌜s'.mem.mem ((c : Thread nD τ).loc main_arg0) = arg m c
          ∧ ∀ sm : SemLoc sig, sm.isScoped .tc = false → s'.mem.sem ((c.tc : Thread nD τ), sm) = 0⌝ ∗ (SI s' : sProp 𝕄)) := by
  rw [arg_whole]
  iintro ⟨⟨Hu, Harg⟩, -, HSI⟩
  icombine HSI Harg gives %h
  imod (Pipeline.unscopedSems0_read (X := (unscopedSems0 c : sProp 𝕄)) (c := c) fupd_intro s') $$ [Hu HSI] with ⟨%h', HSI⟩
  · isplitl [Hu] <;> iassumption
  imodintro
  isplitr; · ipureintro; exact ⟨Buf.eq_of_forall_mem_univ h, h'⟩
  iexact HSI

/-! ## The run -/

/-- The result array is what the body left in its staging buffer. -/
theorem result_eq (c : Dev nD) : (dats m 0 c).arrAt (0 : Fin 1) cfg0.N = outAt m c := by
  refine (dats m 0 c).arrAt_eq_of_after_last (0 : Fin 1) t0_0 (by decide +kernel) _ fun j => ?_
  rfl

set_option maxRecDepth 65536 in
/-- On the four devices, for any float values, from any memory with zero counters: every weakly fair execution ends, with
    every device's result at `outAt`, its argument unchanged and every counter at zero. -/
theorem run_main : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := stage_waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ argR c 0 1024 (arg m c))) (Z := fun _ => iprop(emp))
    (hX := start_intro m ρ) (hin := phi0_intro m) (hout := phi1_exit m)
    (QY := fun c s => s.mem ((c : Thread nD τ).loc main_arg0) = arg m c
      ∧ ∀ sm : SemLoc sig, sm.isScoped .tc = false → s.sem ((c.tc : Thread nD τ), sm) = 0)
    (hY := read_end m)
    (hQ := fun _ h hs => ⟨fun c => ⟨((h c).1 (0 : Fin 1)).trans (result_eq m c), (h c).2.2.1⟩, sem_eq_zero hs fun c => (h c).2.2.2⟩)

end Cert.KernelIdeal.Gather
-- ==== Proof.Value.lean ====
module

public import proofs.«01_k».proof.Proof.Launch
public import Idealize.ShloMosaic.Lib.Layout

/-! What the gathered buffer holds when the devices hold their halves of one array: that array, in
the result's format, on every device. -/

@[expose] public section

noncomputable section

namespace Cert.KernelIdeal.Gather

open Cert.KernelIdeal.Gen
open Idealize.ShloMosaic
open Idealize.ShloMosaic.TcCoe

variable {F : FTy → Type} [FloatOps F]
variable (m : (ℓ : Loc nD τ sig) → Buf (Elt F) ℓ)

/-- The device a row comes from holds the half of the array that the row lies in. -/
theorem from_half (c : Dev nD) (i : ℕ) (hi : i < 2048) : (from_ c i).val % 2 = i / 1024 := by
  have hc : c.val < 4 := c.isLt
  unfold from_
  split
  · omega
  · split
    · show (2 * (c.val / 2) + 1 - c.val % 2) % 2 = i / 1024; omega
    · show (2 * ((c.val % 2 + 2 - 2 * (c.val / 2)) / 2) + 1 - (c.val % 2 + 2 - 2 * (c.val / 2)) % 2) % 2 = i / 1024; omega

theorem block_row (c : Dev nD) : ((Layout.meshBlock [2, 2] ![[1], []] c) (0 : Fin 2)).val = c.val % 2 := by
  revert c; decide

theorem block_col (c : Dev nD) : ((Layout.meshBlock [2, 2] ![[1], []] c) (1 : Fin 2)).val = 0 := by
  revert c; decide

/-- Every device's result is the whole array whose halves the devices hold, in the result's format. -/
theorem outAt_whole (X : S2048x512.Idx → F .f32)
    (h : ∀ c : Dev nD, arg m c = Layout.blockN ⟨2, ![1024, 512]⟩ ⟨2, ![2048, 512]⟩ (Layout.meshBlock [2, 2] ![[1], []] c) X)
    (c : Dev nD) : outAt m c = fun i => FloatOps.truncf .bf16 bitsLt_bf16_f32 (X i) := by
  funext i
  have hi : (i 0).val < 2048 := (i 0).isLt
  unfold outAt
  rw [h]
  refine congrArg (FloatOps.truncf .bf16 bitsLt_bf16_f32) ?_
  rw [Layout.blockN_apply]
  refine congrArg X (funext fun b => Fin.ext ?_)
  match b with
  | 0 =>
    have hd := from_half c (i 0).val hi
    show ((Layout.meshBlock [2, 2] ![[1], []] (from_ c (i 0).val)) (0 : Fin 2)).val * 1024 + (i 0).val % 1024 = (i 0).val
    rw [block_row, hd]; omega
  | 1 =>
    show ((Layout.meshBlock [2, 2] ![[1], []] (from_ c (i 0).val)) (1 : Fin 2)).val * 512 + (i 1).val = (i 1).val
    rw [block_col, Nat.zero_mul, Nat.zero_add]

end Cert.KernelIdeal.Gather

end
-- ==== Proof.lean ====
/- The five claims about the all-gather: each program ends with its arguments unchanged and every
   counter at zero, and the kernel's result on every device is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

section Text

variable {F : FTy → Type} [FloatOps F]

set_option maxRecDepth 65536 in
/-- The program and its reading over the reals have one text: their kernels' bodies are the same. -/
theorem same_bodies : Cert.Kernel.defs₀ (F := F) = Cert.KernelIdeal.defs₀ (F := F) := by
  refine congrArg (Defs.onTc (nD := Cert.KernelIdeal.nD) (τ := Cert.KernelIdeal.τ)) (funext fun l => funext fun a => ?_)
  match l, a with
  | 0, (t, s) => rfl

/-- So are the tables their launches run. -/
theorem same_defs : Cert.Kernel.defs (F := F) = Cert.KernelIdeal.defs (F := F) :=
  congrArg (Pipeline.defs Cert.KernelIdeal.pcfgs) same_bodies

end Text

set_option maxRecDepth 65536 in
/-- The kernel over machine floats: it ends, its arguments unchanged, every counter at zero. -/
theorem frame_kernel : Cert.quiescent_Kernel (hKernel := Cert.Kernel.Gen.facts) := fun m ρ _ => by
  rw [same_defs]
  exact (θ_run Cert.KernelIdeal.defs _ _).mono (fun _ h => ⟨fun c => (h.1 c).2, h.2⟩)
    (Cert.KernelIdeal.Gather.run_main (F := Bits) m ρ)

set_option maxRecDepth 65536 in
/-- The same over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩)
    (Cert.KernelIdeal.Gather.run_main (F := Ideal) m ρ)

/-- The reference has no counters at all; it ends with its argument unchanged. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

set_option maxRecDepth 65536 in
/-- Where the devices hold their halves of the reference's argument, each device's result is the
    reference's. -/
theorem same_result : Cert.algebraic_KernelIdeal_ReferenceIdeal (hKernelIdeal := Cert.KernelIdeal.Gen.facts)
    (hReferenceIdeal := Cert.ReferenceIdeal.Gen.facts) := fun m g m' g' _ hagree =>
  ⟨_, (θ_run Cert.KernelIdeal.defs _ _).mono
      (fun _ h c => ⟨(h.1 c).1.trans (Cert.KernelIdeal.Gather.outAt_whole (F := Ideal) m _ hagree c), (h.1 c).2⟩)
      (Cert.KernelIdeal.Gather.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, same_result⟩

end Cert.Proof

end
